-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_target_in_unit [hPre_target_in_unit : Cert.Pre_target_in_unit.Facts] (m : (ℓ : Loc Cert.KernelIdeal.nD Cert.KernelIdeal.τ Cert.KernelIdeal.sig) → Buf (Elt Ideal) ℓ) : Prop :=
  ∀ c : Dev Cert.KernelIdeal.nD,
    (Cert.Pre_target_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_in_unit [hPre_target_in_unit : Cert.Pre_target_in_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_target_in_unit [hKernelIdeal : Cert.KernelIdeal.Facts] [hPre_target_in_unit : Cert.Pre_target_in_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_target_in_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_target_in_unit [hReferenceIdeal : Cert.ReferenceIdeal.Facts] [hPre_target_in_unit : Cert.Pre_target_in_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_in_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_target_in_unit [hKernelIdeal : Cert.KernelIdeal.Facts] [hReferenceIdeal : Cert.ReferenceIdeal.Facts] [hPre_target_in_unit : Cert.Pre_target_in_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_target_in_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_target_in_unit : Cert.Pre_target_in_unit.Facts),
    quiescent_Kernel (hKernel := hKernel)
    ∧ quiescent_KernelIdeal (hKernelIdeal := hKernelIdeal)
    ∧ quiescent_KernelIdeal_pre_target_in_unit (hKernelIdeal := hKernelIdeal) (hPre_target_in_unit := hPre_target_in_unit)
    ∧ quiescent_ReferenceIdeal (hReferenceIdeal := hReferenceIdeal)
    ∧ quiescent_ReferenceIdeal_pre_target_in_unit (hReferenceIdeal := hReferenceIdeal) (hPre_target_in_unit := hPre_target_in_unit)
    ∧ preserves_Kernel_KernelIdeal
    ∧ algebraic_KernelIdeal_ReferenceIdeal_pre_target_in_unit (hKernelIdeal := hKernelIdeal) (hReferenceIdeal := hReferenceIdeal) (hPre_target_in_unit := hPre_target_in_unit)
-- ==== Pre_target_in_unit.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_cst : FVec F S_ .f32 := constant S_ .f32 0x00000000#32
  let main_v0 : FVec F S16384x1024 .f32 := broadcastInDim S16384x1024 ![] bcast_S_S16384x1024 main_cst
  let main_v1 : IVec S16384x1024 1 := cmpf .oge main_arg1 main_v0
  let main_cst_0 : FVec F S_ .f32 := constant S_ .f32 0x3F800000#32
  let main_v2 : FVec F S16384x1024 .f32 := broadcastInDim S16384x1024 ![] bcast_S_S16384x1024 main_cst_0
  let main_v3 : IVec S16384x1024 1 := cmpf .ole main_arg1 main_v2
  let main_v4 : IVec S16384x1024 1 := andi main_v1 main_v3
  let main_c : IVec S_ 1 := constantI S_ 1 1#1
  let main_v5 : IVec S_ 1 := (fun x v => Host.reduce IntOp.andi x v reducesTo_S16384x1024_S_d0_1 h_S_) main_v4 main_c
  main_v5
-- ==== Kernel.lean ====
abbrev S16384x1024 : Shape := ⟨2, ![16384, 1024]⟩
abbrev S1x128 : Shape := ⟨2, ![1, 128]⟩
abbrev S2048x1024 : Shape := ⟨2, ![2048, 1024]⟩
abbrev S12x8x1024 : Shape := ⟨3, ![12, 8, 1024]⟩
abbrev S8x1024 : Shape := ⟨2, ![8, 1024]⟩
abbrev S1x8x1024 : Shape := ⟨3, ![1, 8, 1024]⟩
abbrev S1 : Shape := ⟨1, ![1]⟩
abbrev S1x1x1 : Shape := ⟨3, ![1, 1, 1]⟩
abbrev S1x1x128 : Shape := ⟨3, ![1, 1, 128]⟩
abbrev S16384 : Shape := ⟨1, ![16384]⟩
abbrev S2048 : Shape := ⟨1, ![2048]⟩
abbrev S2048x128 : Shape := ⟨2, ![2048, 128]⟩
abbrev S2048x128x1 : Shape := ⟨3, ![2048, 128, 1]⟩

abbrev nBuf : Space → Nat
  | .hbm => 5
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x128, .f32⟩
  | .hbm, ⟨3, _⟩ => ⟨S16384x1024, .i8⟩
  | .hbm, ⟨4, _⟩ => ⟨S16384, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x128, .f32⟩
  | .local _ .vmem, ⟨5, _⟩ => ⟨S2048x1024, .i8⟩
  | .local _ .vmem, ⟨6, _⟩ => ⟨S2048x1024, .i8⟩
  | .local _ .vmem, ⟨7, _⟩ => ⟨S12x8x1024, .i32⟩
  | .local _ .vmem, ⟨8, _⟩ => ⟨S1x128, .f32⟩
  | .local _ .vmem, ⟨9, _⟩ => ⟨S2048x1024, .i8⟩
  | .local _ .vmem, ⟨10, _⟩ => ⟨S2048x1024, .i8⟩
  | .local _ .vmem, ⟨11, _⟩ => ⟨S2048x1024, .f32⟩
  | .local _ .vmem, ⟨12, _⟩ => ⟨S2048x1024, .f32⟩
  | .local _ .vmem, ⟨13, _⟩ => ⟨S2048x1024, .f32⟩
  | .local _ .vmem, ⟨14, _⟩ => ⟨S2048x1024, .f32⟩
  | .local _ .vmem, ⟨15, _⟩ => ⟨S2048, .f32⟩
  | .local _ .vmem, ⟨16, _⟩ => ⟨S2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v2018 : BitVec 1 := Scalar.cmpi .eq arg0 c7_i32
  let v2019 : BitVec 32 := Scalar.extui v2018
  let c0_i32_427 : BitVec 32 := 0#32
  let v2020 : BitVec 1 := Scalar.cmpi .ne v2019 c0_i32_427
  v2020

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  ![arg0.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S16384x1024 : Shape := ⟨2, ![16384, 1024]⟩
abbrev S_ : Shape := ⟨0, ![]⟩
abbrev S16777216 : Shape := ⟨1, ![16777216]⟩
abbrev S30 : Shape := ⟨1, ![30]⟩
abbrev S16777216x1 : Shape := ⟨2, ![16777216, 1]⟩
abbrev S16384x1024x1 : Shape := ⟨3, ![16384, 1024, 1]⟩
abbrev S16384 : Shape := ⟨1, ![16384]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .i32⟩
  | .hbm, ⟨17, _⟩ => ⟨S16777216, .i32⟩
  | .hbm, ⟨18, _⟩ => ⟨S_, .i32⟩
  | .hbm, ⟨19, _⟩ => ⟨S30, .i32⟩
  | .hbm, ⟨20, _⟩ => ⟨S_, .i32⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S_, .i32⟩
  | .hbm, ⟨33, _⟩ => ⟨S16777216, .i32⟩
  | .hbm, ⟨34, _⟩ => ⟨S30, .i32⟩
  | .hbm, ⟨35, _⟩ => ⟨S30, .f32⟩
  | .hbm, ⟨36, _⟩ => ⟨S_, .f32⟩
  | .hbm, ⟨37, _⟩ => ⟨S30, .f32⟩
  | .hbm, ⟨38, _⟩ => ⟨S30, .i1⟩
  | .hbm, ⟨39, _⟩ => ⟨S30, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S30, .f32⟩
  | .hbm, ⟨44, _⟩ => ⟨S30, .f32⟩
  | .hbm, ⟨45, _⟩ => ⟨S_, .f32⟩
  | .hbm, ⟨46, _⟩ => ⟨S_, .f32⟩
  | .hbm, ⟨47, _⟩ => ⟨S30, .f32⟩
  | .hbm, ⟨48, _⟩ => ⟨S30, .f32⟩
  | .hbm, ⟨49, _⟩ => ⟨S_, .f32⟩
  | .hbm, ⟨50, _⟩ => ⟨S30, .f32⟩
  | .hbm, ⟨51, _⟩ => ⟨S30, .f32⟩
  | .hbm, ⟨52, _⟩ => ⟨S_, .i32⟩
  | .hbm, ⟨53, _⟩ => ⟨S16384x1024, .i32⟩
  | .hbm, ⟨54, _⟩ => ⟨S16384x1024, .i1⟩
  | .hbm, ⟨55, _⟩ => ⟨S_, .i32⟩
  | .hbm, ⟨56, _⟩ => ⟨S16384x1024, .i32⟩
  | .hbm, ⟨57, _⟩ => ⟨S16384x1024, .i32⟩
  | .hbm, ⟨58, _⟩ => ⟨S16384x1024, .i32⟩
  | .hbm, ⟨59, _⟩ => ⟨S16384x1024x1, .i32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S_, .f32⟩
  | .hbm, ⟨75, _⟩ => ⟨S16384, .f32⟩
  | .hbm, ⟨76, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_c_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Proof.Ideal.Model.lean ====
/- What the histogram kernel computes at one grid point, written as recursive functions over lists: the 256 row slices of
   the one-hot words, the carry-save adder over a stack of slices, the ripple addition of a sum into the bit planes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One tile of 8 rows by 1024 lanes of 32-bit words. -/
abbrev W8 : Type := IVec S8x1024 32

/-- Eight rows of the block starting at row `8 n` lie inside it, for `n` below 256. -/
theorem slice_ok (n : ℕ) (h : n < 256) : S2048x1024.Slices ![8 * n, 0] S8x1024 :=
  ⟨rfl, fun a => by fin_cases a <;> simp <;> omega⟩

/-- The row slices `n - 1, …, 0` of a block, in this order. -/
def slicesDown (v : IVec S2048x1024 32) : (n : ℕ) → n ≤ 256 → List W8
  | 0, _ => []
  | n + 1, h => extractStridedSlice S8x1024 ![8 * n, 0] v (slice_ok n h) :: slicesDown v n (Nat.le_of_succ_le h)

/-- The stack of words `a :: rest` added up bit by bit: three at a time into a sum (left on top) and a carry (pushed on
    `acc`), two at the end likewise. The sum, and the carries with the last one first. -/
def csaGo : W8 → List W8 → List W8 → W8 × List W8
  | a, [], acc => (a, acc)
  | a, [y], acc => (xori y a, andi y a :: acc)
  | a, b :: c :: rest, acc => csaGo (xori (xori a b) c) rest (ori (andi a b) (andi (xori a b) c) :: acc)

/-- Plane `l` lies inside the twelve planes. -/
theorem plane_ok (l : ℕ) (h : l < 12) : ∀ a, (![l, 0, 0] : Fin 3 → ℕ) a + S1x8x1024.size a ≤ S12x8x1024.size a :=
  fun a => by fin_cases a <;> simp <;> omega

/-- Plane `l`'s rectangle. -/
abbrev pl (l : ℕ) (h : l < 12) : Rect S12x8x1024 := Rect.unit (s := S12x8x1024) ![l, 0, 0] S1x8x1024.size (plane_ok l h)

/-- The planes' stores so far, last first. -/
abbrev Pcs (F : FTy → Type) : Type := List (View.Piece (Elt F) S12x8x1024 .i32)

/-- How a plane is read after the stores so far. -/
abbrev Rd (F : FTy → Type) : Type := Pcs F → (l : ℕ) → l < 12 → IVec S1x8x1024 32

/-- The carry `c` added into planes `l, …, l + n - 1`, rippling upwards. -/
def ripple (rd : Rd F) : (n l : ℕ) → l + n ≤ 12 → W8 → Pcs F → Pcs F
  | 0, _, _, _, L => L
  | n + 1, l, h, c, L =>
    let old := shapeCast S8x1024 (rd L l (by omega)) shapeCasts_S1x8x1024_S8x1024
    ripple rd n (l + 1) (by omega) (andi old c)
      (⟨pl l (by omega), shapeCast S1x8x1024 (xori old c) shapeCasts_S8x1024_S1x8x1024⟩ :: L)

/-- `n` passes from level `l`: the stack's sum into the planes from `l` up, then its carries at the next level. -/
def passes (rd : Rd F) : (n l : ℕ) → l + n ≤ 12 → List W8 → Pcs F → Pcs F
  | 0, _, _, _, L => L
  | _ + 1, _, _, [], L => L
  | n + 1, l, h, a :: st, L =>
    passes rd n (l + 1) (by omega) (csaGo a st []).2 (ripple rd (12 - l) l (by omega) (csaGo a st []).1 L)

/-- The stores of a point: the first pass reads the planes as `rd0` says, the other eight as `rd` says. -/
def pcs (rd0 rd : Rd F) (v : IVec S2048x1024 32) (L : Pcs F) : Pcs F :=
  match slicesDown v 256 (le_refl _) with
  | [] => L
  | a :: st => passes rd 8 1 (by omega) (csaGo a st []).2 (ripple rd0 12 0 (by omega) (csaGo a st []).1 L)

/-- The planes read out of given contents, whatever was stored. -/
def rdOf (xs : Vec F S12x8x1024 .i32) : Rd F := fun _ l h => View.ld xs (pl l h)

/-- The planes read back from the stores so far. -/
def rdBack : Rd F := fun L l h => View.ld (View.canon L) (pl l h)

/-- The planes after a point that found them at `xs`. -/
def stepPl (x0 x1 : Vec F S2048x1024 .f32) (xs : Vec F S12x8x1024 .i32) : Vec F S12x8x1024 .i32 :=
  View.canon (pcs (rdOf xs) rdBack (k0_pay253 x0 x1) [])

/-- The planes after the first point, which zeroes them before it begins. -/
def firstPl (x0 x1 : Vec F S2048x1024 .f32) : Vec F S12x8x1024 .i32 :=
  View.canon (pcs rdBack rdBack (k0_pay253 x0 x1)
    [⟨Rect.unit (s := S12x8x1024) ![0, 0, 0] S12x8x1024.size inb_S12x8x1024_S12x8x1024_0_0_0, k0_pay250⟩])

/-! ## The counts read out of the planes, and the table -/

/-- Over a plane: how many of its words have bit `k` set (a 32-bit sum). -/
def levelBits (k : BitVec 32) (p : IVec S1x8x1024 32) : BitVec 32 :=
  extractAt ![0, 0, 0]
    (shapeCast S1x1x1
      (multiReductionI .add [1, 2] S1
        (shapeCast S1x8x1024
          (andi (shrsi (shapeCast S8x1024 p shapeCasts_S1x8x1024_S8x1024) (broadcast S8x1024 k)) (broadcast S8x1024 1#32))
          shapeCasts_S8x1024_S1x8x1024)
        0#32 reduces_S1x8x1024_S1 rfl)
      shapeCasts_S1_S1x1x1)
    inpos_S1x1x1_p0_0_0

/-- The count of bit `k` over the planes below level `n`: each plane's bit count times its power of two. -/
def countTo (ps : (l : ℕ) → l < 12 → IVec S1x8x1024 32) (k : BitVec 32) : (n : ℕ) → n ≤ 12 → F .f32
  | 0, _ => Scalar.ofBits .f32 0x00000000#32
  | n + 1, h => Scalar.addf (countTo ps k n (Nat.le_of_succ_le h))
      (Scalar.mulf (Scalar.ofBits .f32 (BitVec.ofNat 32 (0x3F800000 + 0x800000 * n))) (Scalar.sitofp .f32 (levelBits k (ps n h))))

/-- The row of counts, filled in up to bin `n`. -/
def rowTo (ps : (l : ℕ) → l < 12 → IVec S1x8x1024 32) : (n : ℕ) → FVec F S1x128 .f32
  | 0 => broadcast S1x128 (Scalar.ofBits .f32 0x00000000#32)
  | n + 1 => addf (rowTo ps n)
      (select (cmpi .eq (iota .tc S1x128 32 [1] iota_S1x128_d1_w32) (broadcast S1x128 (BitVec.ofNat 32 n)))
        (broadcast S1x128 (countTo ps (BitVec.ofNat 32 n) 12 (le_refl _))) (broadcast S1x128 (Scalar.ofBits .f32 0x00000000#32)))

/-- How many of the first thirty entries of a row of counts are positive. -/
def nonEmpty (v : FVec F S1x128 .f32) : F .f32 :=
  extractAt ![0, 0, 0]
    (shapeCast S1x1x1
      (multiReduction .add [1, 2] S1
        (shapeCast S1x1x128
          (select (andi (cmpi .slt (iota .tc S1x128 32 [1] iota_S1x128_d1_w32) (broadcast S1x128 30#32))
              (cmpf .ogt v (broadcast S1x128 (Scalar.ofBits .f32 0x00000000#32))))
            (broadcast S1x128 (Scalar.ofBits .f32 0x3F800000#32)) (broadcast S1x128 (Scalar.ofBits .f32 0x00000000#32)))
          shapeCasts_S1x128_S1x1x128)
        0x00000000#32 reduces_S1x1x128_S1 (.inl rfl) rfl)
      shapeCasts_S1_S1x1x1)
    inpos_S1x1x1_p0_0_0

/-- The table of weights from a row of counts. -/
def betaRow (v : FVec F S1x128 .f32) : FVec F S1x128 .f32 :=
  divf (broadcast S1x128 (Scalar.ofBits .f32 0x4B800000#32))
    (maximumf (broadcast S1x128 (Scalar.ofBits .f32 0x38D1B717#32)) (mulf v (broadcast S1x128 (nonEmpty v))))

/-- The table of weights from the planes. -/
def betaOf (xs : Vec F S12x8x1024 .i32) : FVec F S1x128 .f32 := betaRow (rowTo (fun l h => View.ld xs (pl l h)) 30)

/-! ## The branch conditions, over the grid -/

/-- The condition of the first branch: the grid coordinate is zero. -/
abbrev cond0_0 (i : grid0.Coords) : Prop := (Scalar.cmpi .ne (Scalar.extui (Scalar.cmpi .eq (BitVec.ofNat 32 (i 0).val) 0#32)) 0#32) = 1#1

/-- It holds at point 0 only. -/
theorem hcond0_0 : ∀ t : Fin cfg0.N, cond0_0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val = 0)

/-- The condition of the second branch: the grid coordinate is the last. -/
abbrev cond0_1 (i : grid0.Coords) : Prop := k0_cond2 i = 1#1

/-- It holds at point 7 only. -/
theorem hcond0_1 : ∀ t : Fin cfg0.N, cond0_1 (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val = 7)

end Cert.KernelIdeal.Own

end
-- ==== Proof.Ideal.RunFirst.lean ====
/- The histogram kernel's body at a grid point that is the first: run once, and what it leaves. -/
module

public import proofs.«01_k».proof.Proof.Ideal.Model

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reads

variable {s : Shape} {e : EltTy} {sp : Space}

/-- A read of a whole buffer at literal zero offsets gives its contents. -/
theorem readWhole (m : Memref sig .tc .vmem S2048x1024 .f32) (h : m.IsWhole) (x : Vec F S2048x1024 .f32) :
    m.view.readAt (Elt F) (Rect.unit ![0, 0] S2048x1024.size inb_S2048x1024_S2048x1024_0_0).toLoadRect (h.unread x) = x := by
  rw [View.readAt_eq_ld, h.read_unread]
  exact View.ld_unit_lit _ x (by decide)

/-- One store of a whole buffer leaves what was stored. -/
theorem storeWhole (m : Memref sig .tc .vmem S2048x1024 .i8) (f : m.view.ty.Contents (Elt F)) (w : Vec F S2048x1024 .i8) :
    m.view.read (Elt F) (m.view.writes (Elt F) f [⟨Rect.unit ![0, 0] S2048x1024.size inb_S2048x1024_S2048x1024_0_0, w⟩]) = w := by
  rw [View.read_writes_eq_canon _ _ _ (View.cover_of_tiledL _ S2048x1024.size (by sl_kernel_rfl))]
  exact View.canon_cons_unit_lit _ w [] (by decide)

/-- A plane read after stores, whatever view they go through. -/
theorem readBack_eq (m : Memref sig .tc .vmem S12x8x1024 .i32) :
    (fun L l h => m.view.readCov L (pl l h).toLoadRect : Rd F) = rdBack :=
  funext fun L => funext fun l => funext fun h => View.readCov_eq_canon' m.view L (pl l h).toLoadRect

/-- A plane read out of the contents a whole buffer holds. -/
theorem readPlanes_eq (m : Memref sig .tc .vmem S12x8x1024 .i32) (h5 : m.IsWhole) (xs : Vec F S12x8x1024 .i32) :
    (fun _ l h => m.view.readAt (Elt F) (pl l h).toLoadRect (h5.unread xs) : Rd F) = rdOf xs :=
  funext fun L => funext fun l => funext fun h => by rw [View.readAt_eq_ld, h5.read_unread]; rfl

end Reads

variable (c : Dev nD) (i : grid0.Coords)
  (arg1 : Memref sig .tc .vmem S2048x1024 .f32) (harg1 : arg1.IsWhole) (arg2 : Memref sig .tc .vmem S2048x1024 .f32) (harg2 : arg2.IsWhole)
  (arg3 : Memref sig .tc .vmem S1x128 .f32) (harg3 : arg3.IsWhole) (arg4 : Memref sig .tc .vmem S2048x1024 .i8) (harg4 : arg4.IsWhole)
  (arg5 : Memref sig .tc .vmem S12x8x1024 .i32) (harg5 : arg5.IsWhole)
  (hc0 : cond0_0 i) (hc1 : ¬cond0_1 i)
  (x0 : Vec F S2048x1024 .f32) (x1 : Vec F S2048x1024 .f32)

set_option maxHeartbeats 1600000 in
/-- The stores of the body at such a point, found by running it: those into the bin output and those into the planes. -/
noncomputable def runFirst :
    Σ' (L3 : List (View.Piece (Elt F) S2048x1024 .i8)), { LS0 : Pcs F //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E
              (cc0__hist_kernel i arg1 harg1 arg2 harg2 arg3 harg3 arg4 harg4 arg5 harg5) K } := by
  refine ⟨?_, ?_, fun xi2 E K => ?run⟩
  case run =>
    simp only [cc0__hist_kernel_eq_skeleton]; unfold cc0__hist_kernel_skel
    simp only [k0_part170_eq_skeleton, k0_part128_eq_skeleton, k0_part129_eq_skeleton, k0_part130_eq_skeleton, k0_part131_eq_skeleton,
      k0_part132_eq_skeleton, k0_part133_eq_skeleton, k0_part134_eq_skeleton, k0_part135_eq_skeleton, k0_part136_eq_skeleton,
      k0_part137_eq_skeleton, k0_part138_eq_skeleton, k0_part139_eq_skeleton, k0_part140_eq_skeleton, k0_part141_eq_skeleton,
      k0_part142_eq_skeleton, k0_part143_eq_skeleton, k0_part144_eq_skeleton, k0_part145_eq_skeleton, k0_part146_eq_skeleton,
      k0_part147_eq_skeleton, k0_part148_eq_skeleton, k0_part149_eq_skeleton, k0_part150_eq_skeleton, k0_part151_eq_skeleton,
      k0_part152_eq_skeleton, k0_part153_eq_skeleton, k0_part154_eq_skeleton, k0_part155_eq_skeleton, k0_part156_eq_skeleton,
      k0_part157_eq_skeleton, k0_part158_eq_skeleton, k0_part159_eq_skeleton, k0_part160_eq_skeleton, k0_part161_eq_skeleton,
      k0_part162_eq_skeleton, k0_part163_eq_skeleton, k0_part164_eq_skeleton, k0_part165_eq_skeleton, k0_part166_eq_skeleton,
      k0_part167_eq_skeleton, k0_part168_eq_skeleton, k0_part169_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-- The stores into the planes are the recursive model's. -/
theorem runFirst_planes :
    (runFirst c i arg1 harg1 arg2 harg2 arg3 harg3 arg4 harg4 arg5 harg5 hc0 hc1 x0 x1).2.1
      = pcs (fun L l h => arg5.view.readCov L (pl l h).toLoadRect)
        (fun L l h => arg5.view.readCov L (pl l h).toLoadRect)
        (k0_pay253 (arg1.view.readAt (Elt F) (Rect.unit ![0, 0] S2048x1024.size inb_S2048x1024_S2048x1024_0_0).toLoadRect (harg1.unread x0))
        (arg2.view.readAt (Elt F) (Rect.unit ![0, 0] S2048x1024.size inb_S2048x1024_S2048x1024_0_0).toLoadRect (harg2.unread x1)))
        [⟨Rect.unit (s := S12x8x1024) ![0, 0, 0] S12x8x1024.size inb_S12x8x1024_S12x8x1024_0_0_0, k0_pay250⟩] := by
  sl_kernel_rfl

/-- The one store into the bin output. -/
theorem runFirst_bins :
    (runFirst c i arg1 harg1 arg2 harg2 arg3 harg3 arg4 harg4 arg5 harg5 hc0 hc1 x0 x1).1
      = [⟨Rect.unit ![0, 0] S2048x1024.size inb_S2048x1024_S2048x1024_0_0, (k0_pay252 (arg1.view.readAt (Elt F) (Rect.unit ![0, 0] S2048x1024.size inb_S2048x1024_S2048x1024_0_0).toLoadRect (harg1.unread x0))
        (arg2.view.readAt (Elt F) (Rect.unit ![0, 0] S2048x1024.size inb_S2048x1024_S2048x1024_0_0).toLoadRect (harg2.unread x1)))⟩] := by
  sl_kernel_rfl

/-- The stores into the planes cover them. -/
theorem runFirst_cover (y : S12x8x1024.Idx) : ∃ pc ∈ (runFirst c i arg1 harg1 arg2 harg2 arg3 harg3 arg4 harg4 arg5 harg5 hc0 hc1 x0 x1).2.1, y ∈ pc.1.set :=
  View.cover_of_wholeMem (runFirst c i arg1 harg1 arg2 harg2 arg3 harg3 arg4 harg4 arg5 harg5 hc0 hc1 x0 x1).2.1 (by sl_whole_mem) y

include hc0 hc1 in
/-- The body at such a point: the planes go from anything to `firstPl`, the bin output holds the bins, the table is kept. -/
theorem bodyFirst (xi2 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k0_pay252 x0 x1) ∗ owns (c : Thread nD τ) arg5 fullShare (firstPl x0 x1)) -∗ K ⟨⟩))
      ⊢ wp frame (wpE (defs₀ (F := F)) Variants.none c none) E
          (cc0__hist_kernel i arg1 harg1 arg2 harg2 arg3 harg3 arg4 harg4 arg5 harg5) K := by
  iintro ⟨H0, H1, H2, H3, HS0, Hk⟩
  iapply ((runFirst c i arg1 harg1 arg2 harg2 arg3 harg3 arg4 harg4 arg5 harg5 hc0 hc1 x0 x1).2.2 xi2 E K)
  isplitl [H0]; · iexact H0
  isplitl [H1]; · iexact H1
  isplitl [H2]; · iexact H2
  isplitl [H3]; · iexact H3
  isplitl [HS0]; · iexact HS0
  iintro ⟨H0, H1, H2, ⟨%e3, H3⟩, ⟨%es0, HS0⟩⟩
  iapply Hk
  isplitl [H0]; · iexact H0
  isplitl [H1]; · iexact H1
  isplitl [H2]; · iexact H2
  isplitl [H3]
  · unfold owns; iexists _; isplitr
    swap; · iexact H3
    ipureintro
    rw [runFirst_bins, readWhole arg1 harg1, readWhole arg2 harg2]
    exact storeWhole arg4 _ _
  · unfold owns; iexists _; isplitr
    swap; · iexact HS0
    ipureintro
    rw [View.read_writes_eq_canon _ _ _ (runFirst_cover c i arg1 harg1 arg2 harg2 arg3 harg3 arg4 harg4 arg5 harg5 hc0 hc1 x0 x1), runFirst_planes, readWhole arg1 harg1, readWhole arg2 harg2,
      readBack_eq]
    rfl

end Cert.KernelIdeal.Own

end
-- ==== Proof.Ideal.RunMid.lean ====
/- The histogram kernel's body at a grid point that is neither the first nor the last: run once, and what it leaves. -/
module

public import proofs.«01_k».proof.Proof.Ideal.RunFirst

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x1024 .f32) (harg1 : arg1.IsWhole) (arg2 : Memref sig .tc .vmem S2048x1024 .f32) (harg2 : arg2.IsWhole)
  (arg3 : Memref sig .tc .vmem S1x128 .f32) (harg3 : arg3.IsWhole) (arg4 : Memref sig .tc .vmem S2048x1024 .i8) (harg4 : arg4.IsWhole)
  (arg5 : Memref sig .tc .vmem S12x8x1024 .i32) (harg5 : arg5.IsWhole)
  (hc0 : ¬cond0_0 i) (hc1 : ¬cond0_1 i)
  (x0 : Vec F S2048x1024 .f32) (x1 : Vec F S2048x1024 .f32) (xs0 : Vec F S12x8x1024 .i32)

set_option maxHeartbeats 1600000 in
/-- The stores of the body at such a point, found by running it: those into the bin output and those into the planes. -/
noncomputable def runMid :
    Σ' (L3 : List (View.Piece (Elt F) S2048x1024 .i8)), { LS0 : Pcs F //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E
              (cc0__hist_kernel i arg1 harg1 arg2 harg2 arg3 harg3 arg4 harg4 arg5 harg5) K } := by
  refine ⟨?_, ?_, fun xi2 E K => ?run⟩
  case run =>
    simp only [cc0__hist_kernel_eq_skeleton]; unfold cc0__hist_kernel_skel
    simp only [k0_part170_eq_skeleton, k0_part128_eq_skeleton, k0_part129_eq_skeleton, k0_part130_eq_skeleton, k0_part131_eq_skeleton,
      k0_part132_eq_skeleton, k0_part133_eq_skeleton, k0_part134_eq_skeleton, k0_part135_eq_skeleton, k0_part136_eq_skeleton,
      k0_part137_eq_skeleton, k0_part138_eq_skeleton, k0_part139_eq_skeleton, k0_part140_eq_skeleton, k0_part141_eq_skeleton,
      k0_part142_eq_skeleton, k0_part143_eq_skeleton, k0_part144_eq_skeleton, k0_part145_eq_skeleton, k0_part146_eq_skeleton,
      k0_part147_eq_skeleton, k0_part148_eq_skeleton, k0_part149_eq_skeleton, k0_part150_eq_skeleton, k0_part151_eq_skeleton,
      k0_part152_eq_skeleton, k0_part153_eq_skeleton, k0_part154_eq_skeleton, k0_part155_eq_skeleton, k0_part156_eq_skeleton,
      k0_part157_eq_skeleton, k0_part158_eq_skeleton, k0_part159_eq_skeleton, k0_part160_eq_skeleton, k0_part161_eq_skeleton,
      k0_part162_eq_skeleton, k0_part163_eq_skeleton, k0_part164_eq_skeleton, k0_part165_eq_skeleton, k0_part166_eq_skeleton,
      k0_part167_eq_skeleton, k0_part168_eq_skeleton, k0_part169_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-- The stores into the planes are the recursive model's. -/
theorem runMid_planes :
    (runMid c i arg1 harg1 arg2 harg2 arg3 harg3 arg4 harg4 arg5 harg5 hc0 hc1 x0 x1 xs0).2.1
      = pcs (fun _ l h => arg5.view.readAt (Elt F) (pl l h).toLoadRect (harg5.unread xs0))
        (fun L l h => arg5.view.readCov L (pl l h).toLoadRect)
        (k0_pay253 (arg1.view.readAt (Elt F) (Rect.unit ![0, 0] S2048x1024.size inb_S2048x1024_S2048x1024_0_0).toLoadRect (harg1.unread x0))
        (arg2.view.readAt (Elt F) (Rect.unit ![0, 0] S2048x1024.size inb_S2048x1024_S2048x1024_0_0).toLoadRect (harg2.unread x1))) [] := by
  sl_kernel_rfl

/-- The one store into the bin output. -/
theorem runMid_bins :
    (runMid c i arg1 harg1 arg2 harg2 arg3 harg3 arg4 harg4 arg5 harg5 hc0 hc1 x0 x1 xs0).1
      = [⟨Rect.unit ![0, 0] S2048x1024.size inb_S2048x1024_S2048x1024_0_0, (k0_pay252 (arg1.view.readAt (Elt F) (Rect.unit ![0, 0] S2048x1024.size inb_S2048x1024_S2048x1024_0_0).toLoadRect (harg1.unread x0))
        (arg2.view.readAt (Elt F) (Rect.unit ![0, 0] S2048x1024.size inb_S2048x1024_S2048x1024_0_0).toLoadRect (harg2.unread x1)))⟩] := by
  sl_kernel_rfl

/-- The stores into the planes cover them. -/
theorem runMid_cover (y : S12x8x1024.Idx) : ∃ pc ∈ (runMid c i arg1 harg1 arg2 harg2 arg3 harg3 arg4 harg4 arg5 harg5 hc0 hc1 x0 x1 xs0).2.1, y ∈ pc.1.set :=
  View.cover_of_tiledL (runMid c i arg1 harg1 arg2 harg2 arg3 harg3 arg4 harg4 arg5 harg5 hc0 hc1 x0 x1 xs0).2.1 S1x8x1024.size (by sl_kernel_rfl) y

include hc0 hc1 in
/-- The body at such a point: the planes go from `xs0` to `stepPl`, the bin output holds the bins, the table is kept. -/
theorem bodyMid (xi2 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ owns (c : Thread nD τ) arg5 fullShare xs0
        ∗ (iprop(owns (c : Thread nD τ) arg1 fullShare x0 ∗ owns (c : Thread nD τ) arg2 fullShare x1 ∗ owns (c : Thread nD τ) arg3 fullShare xi2
            ∗ owns (c : Thread nD τ) arg4 fullShare (k0_pay252 x0 x1) ∗ owns (c : Thread nD τ) arg5 fullShare (stepPl x0 x1 xs0)) -∗ K ⟨⟩))
      ⊢ wp frame (wpE (defs₀ (F := F)) Variants.none c none) E
          (cc0__hist_kernel i arg1 harg1 arg2 harg2 arg3 harg3 arg4 harg4 arg5 harg5) K := by
  iintro ⟨H0, H1, H2, H3, HS0, Hk⟩
  iapply ((runMid c i arg1 harg1 arg2 harg2 arg3 harg3 arg4 harg4 arg5 harg5 hc0 hc1 x0 x1 xs0).2.2 xi2 E K)
  isplitl [H0]; · iexact H0
  isplitl [H1]; · iexact H1
  isplitl [H2]; · iexact H2
  isplitl [H3]; · iexact H3
  isplitl [HS0]; · iexact HS0
  iintro ⟨H0, H1, H2, ⟨%e3, H3⟩, ⟨%es0, HS0⟩⟩
  iapply Hk
  isplitl [H0]; · iexact H0
  isplitl [H1]; · iexact H1
  isplitl [H2]; · iexact H2
  isplitl [H3]
  · unfold owns; iexists _; isplitr
    swap; · iexact H3
    ipureintro
    rw [runMid_bins, readWhole arg1 harg1, readWhole arg2 harg2]
    exact storeWhole arg4 _ _
  · unfold owns; iexists _; isplitr
    swap; · iexact HS0
    ipureintro
    rw [View.read_writes_eq_canon _ _ _ (runMid_cover c i arg1 harg1 arg2 harg2 arg3 harg3 arg4 harg4 arg5 harg5 hc0 hc1 x0 x1 xs0), runMid_planes, readWhole arg1 harg1, readWhole arg2 harg2,
      readBack_eq, readPlanes_eq arg5 harg5]
    rfl

end Cert.KernelIdeal.Own

end
-- ==== Proof.Ideal.RunLast.lean ====
/- The histogram kernel's body at a grid point that is the last: run once, and what it leaves. -/
module

public import proofs.«01_k».proof.Proof.Ideal.RunMid

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x1024 .f32) (harg1 : arg1.IsWhole) (arg2 : Memref sig .tc .vmem S2048x1024 .f32) (harg2 : arg2.IsWhole)
  (arg3 : Memref sig .tc .vmem S1x128 .f32) (harg3 : arg3.IsWhole) (arg4 : Memref sig .tc .vmem S2048x1024 .i8) (harg4 : arg4.IsWhole)
  (arg5 : Memref sig .tc .vmem S12x8x1024 .i32) (harg5 : arg5.IsWhole)
  (hc0 : ¬cond0_0 i) (hc1 : cond0_1 i)
  (x0 : Vec F S2048x1024 .f32) (x1 : Vec F S2048x1024 .f32) (xs0 : Vec F S12x8x1024 .i32)

set_option maxHeartbeats 1600000 in
/-- The stores of the body at such a point, found by running it: those into the table, those into the bin output and those into the planes. -/
noncomputable def runLast :
    Σ' (L2 : List (View.Piece (Elt F) S1x128 .f32)) (L3 : List (View.Piece (Elt F) S2048x1024 .i8)), { LS0 : Pcs F //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E
              (cc0__hist_kernel i arg1 harg1 arg2 harg2 arg3 harg3 arg4 harg4 arg5 harg5) K } := by
  refine ⟨?_, ?_, ?_, fun E K => ?run⟩
  case run =>
    simp only [cc0__hist_kernel_eq_skeleton]; unfold cc0__hist_kernel_skel
    simp only [k0_part170_eq_skeleton, k0_part128_eq_skeleton, k0_part129_eq_skeleton, k0_part130_eq_skeleton, k0_part131_eq_skeleton,
      k0_part132_eq_skeleton, k0_part133_eq_skeleton, k0_part134_eq_skeleton, k0_part135_eq_skeleton, k0_part136_eq_skeleton,
      k0_part137_eq_skeleton, k0_part138_eq_skeleton, k0_part139_eq_skeleton, k0_part140_eq_skeleton, k0_part141_eq_skeleton,
      k0_part142_eq_skeleton, k0_part143_eq_skeleton, k0_part144_eq_skeleton, k0_part145_eq_skeleton, k0_part146_eq_skeleton,
      k0_part147_eq_skeleton, k0_part148_eq_skeleton, k0_part149_eq_skeleton, k0_part150_eq_skeleton, k0_part151_eq_skeleton,
      k0_part152_eq_skeleton, k0_part153_eq_skeleton, k0_part154_eq_skeleton, k0_part155_eq_skeleton, k0_part156_eq_skeleton,
      k0_part157_eq_skeleton, k0_part158_eq_skeleton, k0_part159_eq_skeleton, k0_part160_eq_skeleton, k0_part161_eq_skeleton,
      k0_part162_eq_skeleton, k0_part163_eq_skeleton, k0_part164_eq_skeleton, k0_part165_eq_skeleton, k0_part166_eq_skeleton,
      k0_part167_eq_skeleton, k0_part168_eq_skeleton, k0_part169_eq_skeleton, k0_part126_eq_skeleton, k0_part1_eq_skeleton,
      k0_part2_eq_skeleton, k0_part3_eq_skeleton, k0_part4_eq_skeleton, k0_part5_eq_skeleton, k0_part6_eq_skeleton, k0_part7_eq_skeleton,
      k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton,
      k0_part23_eq_skeleton, k0_part24_eq_skeleton, k0_part25_eq_skeleton, k0_part26_eq_skeleton, k0_part27_eq_skeleton,
      k0_part28_eq_skeleton, k0_part29_eq_skeleton, k0_part30_eq_skeleton, k0_part31_eq_skeleton, k0_part32_eq_skeleton,
      k0_part33_eq_skeleton, k0_part34_eq_skeleton, k0_part35_eq_skeleton, k0_part36_eq_skeleton, k0_part37_eq_skeleton,
      k0_part38_eq_skeleton, k0_part39_eq_skeleton, k0_part40_eq_skeleton, k0_part41_eq_skeleton, k0_part42_eq_skeleton,
      k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton,
      k0_part53_eq_skeleton, k0_part54_eq_skeleton, k0_part55_eq_skeleton, k0_part56_eq_skeleton, k0_part57_eq_skeleton,
      k0_part58_eq_skeleton, k0_part59_eq_skeleton, k0_part60_eq_skeleton, k0_part127_eq_skeleton, k0_part61_eq_skeleton,
      k0_part62_eq_skeleton, k0_part63_eq_skeleton, k0_part64_eq_skeleton, k0_part65_eq_skeleton, k0_part66_eq_skeleton,
      k0_part67_eq_skeleton, k0_part68_eq_skeleton, k0_part69_eq_skeleton, k0_part70_eq_skeleton, k0_part71_eq_skeleton,
      k0_part72_eq_skeleton, k0_part73_eq_skeleton, k0_part74_eq_skeleton, k0_part75_eq_skeleton, k0_part76_eq_skeleton,
      k0_part77_eq_skeleton, k0_part78_eq_skeleton, k0_part79_eq_skeleton, k0_part80_eq_skeleton, k0_part81_eq_skeleton,
      k0_part82_eq_skeleton, k0_part83_eq_skeleton, k0_part84_eq_skeleton, k0_part85_eq_skeleton, k0_part86_eq_skeleton,
      k0_part87_eq_skeleton, k0_part88_eq_skeleton, k0_part89_eq_skeleton, k0_part90_eq_skeleton, k0_part91_eq_skeleton,
      k0_part92_eq_skeleton, k0_part93_eq_skeleton, k0_part94_eq_skeleton, k0_part95_eq_skeleton, k0_part96_eq_skeleton,
      k0_part97_eq_skeleton, k0_part98_eq_skeleton, k0_part99_eq_skeleton, k0_part100_eq_skeleton, k0_part101_eq_skeleton,
      k0_part102_eq_skeleton, k0_part103_eq_skeleton, k0_part104_eq_skeleton, k0_part105_eq_skeleton, k0_part106_eq_skeleton,
      k0_part107_eq_skeleton, k0_part108_eq_skeleton, k0_part109_eq_skeleton, k0_part110_eq_skeleton, k0_part111_eq_skeleton,
      k0_part112_eq_skeleton, k0_part113_eq_skeleton, k0_part114_eq_skeleton, k0_part115_eq_skeleton, k0_part116_eq_skeleton,
      k0_part117_eq_skeleton, k0_part118_eq_skeleton, k0_part119_eq_skeleton, k0_part120_eq_skeleton, k0_part121_eq_skeleton,
      k0_part122_eq_skeleton, k0_part123_eq_skeleton, k0_part124_eq_skeleton, k0_part125_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The stores into the planes are the recursive model's. -/
theorem runLast_planes :
    (runLast c i arg1 harg1 arg2 harg2 arg3 harg3 arg4 harg4 arg5 harg5 hc0 hc1 x0 x1 xs0).2.2.1
      = pcs (fun _ l h => arg5.view.readAt (Elt F) (pl l h).toLoadRect (harg5.unread xs0))
        (fun L l h => arg5.view.readCov L (pl l h).toLoadRect)
        (k0_pay253 (arg1.view.readAt (Elt F) (Rect.unit ![0, 0] S2048x1024.size inb_S2048x1024_S2048x1024_0_0).toLoadRect (harg1.unread x0))
        (arg2.view.readAt (Elt F) (Rect.unit ![0, 0] S2048x1024.size inb_S2048x1024_S2048x1024_0_0).toLoadRect (harg2.unread x1))) [] := by
  sl_kernel_rfl

/-- The one store into the bin output. -/
theorem runLast_bins :
    (runLast c i arg1 harg1 arg2 harg2 arg3 harg3 arg4 harg4 arg5 harg5 hc0 hc1 x0 x1 xs0).2.1
      = [⟨Rect.unit ![0, 0] S2048x1024.size inb_S2048x1024_S2048x1024_0_0, (k0_pay252 (arg1.view.readAt (Elt F) (Rect.unit ![0, 0] S2048x1024.size inb_S2048x1024_S2048x1024_0_0).toLoadRect (harg1.unread x0))
        (arg2.view.readAt (Elt F) (Rect.unit ![0, 0] S2048x1024.size inb_S2048x1024_S2048x1024_0_0).toLoadRect (harg2.unread x1)))⟩] := by
  sl_kernel_rfl

/-- The one store into the table: the weights from the planes as the stores left them. -/
theorem runLast_table :
    (runLast c i arg1 harg1 arg2 harg2 arg3 harg3 arg4 harg4 arg5 harg5 hc0 hc1 x0 x1 xs0).1
      = [⟨Rect.unit ![0, 0] S1x128.size inb_S1x128_S1x128_0_0,
          betaRow (rowTo (fun l h => arg5.view.readCov (runLast c i arg1 harg1 arg2 harg2 arg3 harg3 arg4 harg4 arg5 harg5 hc0 hc1 x0 x1 xs0).2.2.1 (pl l h).toLoadRect) 30)⟩] := by
  sl_kernel_rfl

/-- The stores into the planes cover them. -/
theorem runLast_cover (y : S12x8x1024.Idx) : ∃ pc ∈ (runLast c i arg1 harg1 arg2 harg2 arg3 harg3 arg4 harg4 arg5 harg5 hc0 hc1 x0 x1 xs0).2.2.1, y ∈ pc.1.set :=
  View.cover_of_tiledL (runLast c i arg1 harg1 arg2 harg2 arg3 harg3 arg4 harg4 arg5 harg5 hc0 hc1 x0 x1 xs0).2.2.1 S1x8x1024.size (by sl_kernel_rfl) y

/-- What those stores leave in the planes. -/
theorem runLast_after : View.canon (runLast c i arg1 harg1 arg2 harg2 arg3 harg3 arg4 harg4 arg5 harg5 hc0 hc1 x0 x1 xs0).2.2.1 = stepPl x0 x1 xs0 := by
  rw [runLast_planes, readWhole arg1 harg1, readWhole arg2 harg2, readBack_eq, readPlanes_eq arg5 harg5]
  rfl

/-- One store of the whole table leaves what was stored. -/
theorem storeRow (m : Memref sig .tc .vmem S1x128 .f32) (f : m.view.ty.Contents (Elt F)) (w : Vec F S1x128 .f32) :
    m.view.read (Elt F) (m.view.writes (Elt F) f [⟨Rect.unit ![0, 0] S1x128.size inb_S1x128_S1x128_0_0, w⟩]) = w := by
  rw [View.read_writes_eq_canon _ _ _ (View.cover_of_tiledL _ S1x128.size (by sl_kernel_rfl))]
  exact View.canon_cons_unit_lit _ w [] (by decide)

/-- The row of counts from planes read back after stores. -/
theorem readBack_row (m : Memref sig .tc .vmem S12x8x1024 .i32) (L : Pcs F) :
    betaRow (rowTo (fun l h => m.view.readCov L (pl l h).toLoadRect) 30) = betaOf (View.canon L) := by
  have e : (fun (l : ℕ) (h : l < 12) => m.view.readCov L (pl l h).toLoadRect) = fun l h => View.ld (View.canon L) (pl l h) :=
    funext fun l => funext fun h => View.readCov_eq_canon' m.view L (pl l h).toLoadRect
  rw [e, betaOf]

include hc0 hc1 in
/-- The body at such a point: the planes go from `xs0` to `stepPl`, the bin output holds the bins, the table the weights. -/
theorem bodyLast (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ owns (c : Thread nD τ) arg5 fullShare xs0
        ∗ (iprop(owns (c : Thread nD τ) arg1 fullShare x0 ∗ owns (c : Thread nD τ) arg2 fullShare x1 ∗ owns (c : Thread nD τ) arg3 fullShare (betaOf (stepPl x0 x1 xs0))
            ∗ owns (c : Thread nD τ) arg4 fullShare (k0_pay252 x0 x1) ∗ owns (c : Thread nD τ) arg5 fullShare (stepPl x0 x1 xs0)) -∗ K ⟨⟩))
      ⊢ wp frame (wpE (defs₀ (F := F)) Variants.none c none) E
          (cc0__hist_kernel i arg1 harg1 arg2 harg2 arg3 harg3 arg4 harg4 arg5 harg5) K := by
  iintro ⟨H0, H1, H2, H3, HS0, Hk⟩
  iapply ((runLast c i arg1 harg1 arg2 harg2 arg3 harg3 arg4 harg4 arg5 harg5 hc0 hc1 x0 x1 xs0).2.2.2 E K)
  isplitl [H0]; · iexact H0
  isplitl [H1]; · iexact H1
  isplitl [H2]; · iexact H2
  isplitl [H3]; · iexact H3
  isplitl [HS0]; · iexact HS0
  iintro ⟨H0, H1, ⟨%e2, H2⟩, ⟨%e3, H3⟩, ⟨%es0, HS0⟩⟩
  iapply Hk
  isplitl [H0]; · iexact H0
  isplitl [H1]; · iexact H1
  isplitl [H2]
  · unfold owns; iexists _; isplitr
    swap; · iexact H2
    ipureintro
    rw [runLast_table, readBack_row, runLast_after c i arg1 harg1 arg2 harg2 arg3 harg3 arg4 harg4 arg5 harg5 hc0 hc1 x0 x1 xs0]
    exact storeRow arg3 _ _
  isplitl [H3]
  · unfold owns; iexists _; isplitr
    swap; · iexact H3
    ipureintro
    rw [runLast_bins, readWhole arg1 harg1, readWhole arg2 harg2]
    exact storeWhole arg4 _ _
  · unfold owns; iexists _; isplitr
    swap; · iexact HS0
    ipureintro
    rw [View.read_writes_eq_canon _ _ _ (runLast_cover c i arg1 harg1 arg2 harg2 arg3 harg3 arg4 harg4 arg5 harg5 hc0 hc1 x0 x1 xs0), runLast_after]

end Cert.KernelIdeal.Own

end
-- ==== Proof.Ideal.HistRegion.lean ====
/- The histogram call as one stretch of the program: what its staging buffers and the planes it carries hold after every
   grid point, and the body's obligation there. -/
module

public import proofs.«01_k».proof.Proof.Ideal.RunLast

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, out of its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits' block at a point. -/
abbrev xblk (c : Dev nD) (t : Fin cfg0.N) : Vec F S2048x1024 .f32 := iblk0 V c 0 t

/-- The targets' block at a point. -/
abbrev tblk (c : Dev nD) (t : Fin cfg0.N) : Vec F S2048x1024 .f32 := iblk0 V c 1 t

/-- The planes after point `n`. -/
def planesAt (c : Dev nD) : (n : ℕ) → n < cfg0.N → Vec F S12x8x1024 .i32
  | 0, h => firstPl (xblk V c ⟨0, h⟩) (tblk V c ⟨0, h⟩)
  | n + 1, h => stepPl (xblk V c ⟨n + 1, h⟩) (tblk V c ⟨n + 1, h⟩) (planesAt c n (Nat.lt_of_succ_lt h))

/-- The planes after the first point are those of its block alone. -/
theorem planesAt_first (c : Dev nD) (t : Fin cfg0.N) (h : t.val = 0) :
    planesAt V c t.val t.isLt = firstPl (xblk V c t) (tblk V c t) := by
  obtain ⟨n, hn⟩ := t
  cases n with
  | zero => rfl
  | succ n => exact absurd h (Nat.succ_ne_zero n)

/-- The planes after a later point are the step from those before. -/
theorem planesAt_next (c : Dev nD) (t : Fin cfg0.N) (h : t.val ≠ 0) :
    planesAt V c t.val t.isLt
      = stepPl (xblk V c t) (tblk V c t) (planesAt V c (t.val - 1) (Nat.lt_of_le_of_lt (Nat.sub_le _ _) t.isLt)) := by
  obtain ⟨n, hn⟩ := t
  cases n with
  | zero => exact absurd rfl h
  | succ n => rfl

/-- The planes' buffer. -/
abbrev scM : Memref sig .tc .vmem S12x8x1024 .i32 := Memref.whole cc0_scratch0

/-- The scoped buffers of the core besides the call's staging: the planes and a rest. -/
theorem rest_exists (c : Dev nD) : ∃ R : sProp 𝕄,
    (Pipeline.ΦA spec0 c : sProp 𝕄) = iprop(iprop((∃ d, owns (c : Thread nD τ) scM fullShare d) ∗ R) ∗ (∃ r, prngReg c r)) :=
  ⟨_, by unfold Pipeline.ΦA; rw [scopedRest0_eq]; simp only [scM, owns_whole]; rfl⟩

/-- That rest. -/
def rest (c : Dev nD) : sProp 𝕄 := Classical.choose (rest_exists (F := F) c)

/-- The region's own invariant before the first point: the planes are owned, with any contents. -/
theorem PhiA_eq (c : Dev nD) :
    (Pipeline.ΦA spec0 c : sProp 𝕄) = iprop(iprop((∃ d, owns (c : Thread nD τ) scM fullShare d) ∗ rest (F := F) c) ∗ (∃ r, prngReg c r)) :=
  Classical.choose_spec (rest_exists (F := F) c)

/-- What the call holds before point `n`: at the start the scoped buffers at anything, afterwards the planes at what the
    point before left. -/
def PhiS (c : Dev nD) : (n : ℕ) → n ≤ cfg0.N → sProp 𝕄
  | 0, _ => Pipeline.ΦA spec0 c
  | n + 1, hn => iprop(iprop(owns (c : Thread nD τ) scM fullShare (planesAt V c n hn) ∗ rest (F := F) c) ∗ (∃ r, prngReg c r))

/-- Before the first point the planes may hold anything. -/
theorem PhiS_zero (c : Dev nD) (n : ℕ) (h : n ≤ cfg0.N) (hz : n = 0) : PhiS V c n h = Pipeline.ΦA spec0 c := by
  subst hz; rfl

/-- After a point the planes hold what it left. -/
theorem PhiS_succ (c : Dev nD) (n : ℕ) (hn : n < cfg0.N) :
    PhiS V c (n + 1) hn = iprop(iprop(owns (c : Thread nD τ) scM fullShare (planesAt V c n hn) ∗ rest (F := F) c) ∗ (∃ r, prngReg c r)) := rfl

/-- Before a later point the planes hold what the last left. -/
theorem PhiS_pos (c : Dev nD) (n : ℕ) (h : n ≤ cfg0.N) (hz : n ≠ 0) :
    PhiS V c n h = iprop(iprop(owns (c : Thread nD τ) scM fullShare (planesAt V c (n - 1) (by omega)) ∗ rest (F := F) c) ∗ (∃ r, prngReg c r)) := by
  cases n with
  | zero => exact absurd rfl hz
  | succ n => rfl

/-- The call's proof data: inputs at their blocks, the table from the planes, the bins. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => betaOf (planesAt V c t.val t.isLt)
    | ⟨3, _⟩ => k0_pay252 (xblk V c t) (tblk V c t)
  Φ t := PhiS V c t.val (Nat.le_of_lt_succ t.isLt)
  q _ := fullShare
  owed _ := 0

/-- The arrays of call 0 at entry. -/
theorem A_eq0 (c : Dev nD) (w : Fin cfg0.W) : (dat0 V c).A w = V c (Pipeline.arrRef spec0 w) := by
  dsimp only [dat0]

/-- The invariant at a point, by its number. -/
theorem PhiS_castSucc (c : Dev nD) (t : Fin cfg0.N) : (dat0 V c).Φ t.castSucc = PhiS V c t.val (Nat.le_of_lt t.isLt) := by
  dsimp only [dat0]; exact Pipeline.Dat.Φ_castSucc (PhiS V c) t

/-- What the body of call 0 leaves in the first window's buffer. -/
theorem after0_0 (c : Dev nD) (t : Fin cfg0.N) : (dat0 V c).after 0 t = iblk0 V c 0 t := by dsimp only [dat0]
/-- What the body of call 0 leaves in the second window's buffer. -/
theorem after0_1 (c : Dev nD) (t : Fin cfg0.N) : (dat0 V c).after 1 t = iblk0 V c 1 t := by dsimp only [dat0]
/-- What the body of call 0 leaves in the third window's buffer. -/
theorem after0_2 (c : Dev nD) (t : Fin cfg0.N) : (dat0 V c).after 2 t = betaOf (planesAt V c t.val t.isLt) := by dsimp only [dat0]
/-- What the body of call 0 leaves in the fourth window's buffer. -/
theorem after0_3 (c : Dev nD) (t : Fin cfg0.N) : (dat0 V c).after 3 t = k0_pay252 (xblk V c t) (tblk V c t) := by dsimp only [dat0]

/-- What the body of call 0 finds in the first window's buffer. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]) t d).trans
    (by unfold Dat.fetched Dat.blockOf iblk0; rw [A_eq0]; rfl)
/-- What the body of call 0 finds in the second window's buffer. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]) t d).trans
    (by unfold Dat.fetched Dat.blockOf iblk0; rw [A_eq0]; rfl)

/-- The inputs and the bin output are live at every point. -/
theorem live0_0 : ∀ t : Fin cfg0.N, cfg0.idle 0 (grid0.coords t) = false := fun _ => rfl
/-- Window 1 is used at every point, -/
theorem live0_1 : ∀ t : Fin cfg0.N, cfg0.idle 1 (grid0.coords t) = false := fun _ => rfl
/-- and so is window 3. -/
theorem live0_3 : ∀ t : Fin cfg0.N, cfg0.idle 3 (grid0.coords t) = false := fun _ => rfl
/-- The table is live at the last point only, and written back only there. -/
theorem live0_2 : ∀ t : Fin cfg0.N, t.val = 7 → cfg0.idle 2 (grid0.coords t) = false := by decide +kernel
/-- The table's buffer is idle before the last point, -/
theorem idle0_2 : ∀ t : Fin cfg0.N, t.val ≠ 7 → cfg0.idle 2 (grid0.coords t) = true := by decide +kernel
/-- and is not written back there. -/
theorem noFlush0_2 : ∀ t : Fin cfg0.N, t.val ≠ 7 → (cfg0.win 2).flush t = false := by decide +kernel

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in
/-- The body at any point: the planes are taken at what the point before left and given back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ, PhiS_castSucc]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 3 t = owns (c : Thread nD τ) (st0_3 t) fullShare ((dat0 V c).after 3 t) from by
    unfold Dat.leavesExact; rw [live0_3 t], after0_3]
  by_cases h0 : t.val = 0
  · have h1 : t.val ≠ 7 := by omega
    rw [Dat.leavesExact_idle (dat0 V c) 2 t (idle0_2 t h1) (noFlush0_2 t h1)]
    rw [PhiS_zero V c _ _ h0, PhiA_eq, planesAt_first V c t h0]
    iintro ⟨⟨⟨HS0, Hr⟩, Hg⟩, Ho, ⟨%d0, H0⟩, ⟨%d1, H1⟩, ⟨%d2, H2⟩, ⟨%d3, H3⟩⟩
    iapply (bodyFirst c (grid0.coords t) _ _ _ _ _ _ _ _ _ (Memref.isWhole_whole _) ((hcond0_0 t).mpr h0)
      (fun h => h1 ((hcond0_1 t).mp h)) (xblk V c t) (tblk V c t) _ Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexists _; iexact H2
    iexact H3
  · rw [PhiS_pos V c _ _ h0, planesAt_next V c t h0]
    by_cases h1 : t.val = 7
    · rw [show (dat0 V c).leavesExact 2 t = owns (c : Thread nD τ) (st0_2 t) fullShare ((dat0 V c).after 2 t) from by
        unfold Dat.leavesExact; rw [live0_2 t h1], after0_2, planesAt_next V c t h0]
      iintro ⟨⟨⟨HS0, Hr⟩, Hg⟩, Ho, ⟨%d0, H0⟩, ⟨%d1, H1⟩, ⟨%d2, H2⟩, ⟨%d3, H3⟩⟩
      iapply (bodyLast c (grid0.coords t) _ _ _ _ _ _ _ _ _ (Memref.isWhole_whole _) (fun h => h0 ((hcond0_0 t).mp h))
        ((hcond0_1 t).mpr h1) (xblk V c t) (tblk V c t) _ Set.univ _)
      isplitl [H0]; · iexact H0
      isplitl [H1]; · iexact H1
      isplitl [H2]; · iexists _; iexact H2
      isplitl [H3]; · iexists _; iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · rw [Dat.leavesExact_idle (dat0 V c) 2 t (idle0_2 t h1) (noFlush0_2 t h1)]
      iintro ⟨⟨⟨HS0, Hr⟩, Hg⟩, Ho, ⟨%d0, H0⟩, ⟨%d1, H1⟩, ⟨%d2, H2⟩, ⟨%d3, H3⟩⟩
      iapply (bodyMid c (grid0.coords t) _ _ _ _ _ _ _ _ _ (Memref.isWhole_whole _) (fun h => h0 ((hcond0_0 t).mp h))
        (fun h => h1 ((hcond0_1 t).mp h)) (xblk V c t) (tblk V c t) _ _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexists _; iexact H2
      iexact H3

/-- The body table's row at point `t`. -/
theorem defs₀_row0 (t : Fin cfg0.N) : defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the call is entered with is what it holds before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the planes' contents are forgotten. -/
theorem hout0 (c : Dev nD) : (dat0 V c).Φ (Fin.last cfg0.N) ⊢ Pipeline.ΦA spec0 c := by
  rw [show (dat0 V c).Φ (Fin.last cfg0.N) = PhiS V c cfg0.N (le_refl _) from rfl,
    PhiS_pos V c _ _ (by have : cfg0.N = 8 := N_0; omega), PhiA_eq]
  iintro ⟨⟨HS0, Hr⟩, Hg⟩
  isplitl [HS0 Hr]
  · isplitl [HS0]
    · iexists _; iexact HS0
    iexact Hr
  iexact Hg

end Cert.KernelIdeal.Own

end
-- ==== Proof.Ideal.LossRegion.lean ====
/- The loss call as one stretch of the program: what its body leaves in the result's block, and its obligation at
   every grid point. -/
module

public import proofs.«01_k».proof.Proof.Ideal.HistRegion

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, out of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A whole block. -/
abbrev wholeBlk : Rect S2048x1024 := Rect.unit (s := S2048x1024) ![0, 0] S2048x1024.size inb_S2048x1024_S2048x1024_0_0
/-- The whole table. -/
abbrev wholeTab : Rect S1x128 := Rect.unit (s := S1x128) ![0, 0] S1x128.size inb_S1x128_S1x128_0_0
/-- The whole block of row means. -/
abbrev wholeOut : Rect S2048 := Rect.unit (s := S2048) ![0] S2048.size inb_S2048_S2048_0

/-- The row means of a block from the table, the block of bins, the logits and the targets. -/
def lossRows (b : FVec F S1x128 .f32) (bi : IVec S2048x1024 8) (x t : FVec F S2048x1024 .f32) : FVec F S2048 .f32 :=
  k1_pay1 (k1_pay8 x t (k1_pay2 (F := F) bi) (k1_pay3 b) (k1_pay4 bi b) (k1_pay5 bi b) (k1_pay6 bi b) (k1_pay7 (F := F) bi))

/-- The result's block after the body. -/
def lossOut (x0 : Vec F S1x128 .f32) (x1 : Vec F S2048x1024 .i8) (x2 x3 : Vec F S2048x1024 .f32) : Vec F S2048 .f32 :=
  View.canon [⟨wholeOut, lossRows (View.ld x0 wholeTab) (View.ld x1 wholeBlk) (View.ld x2 wholeBlk) (View.ld x3 wholeBlk)⟩]

/-- The one store covers the block. -/
theorem lossCover (p0 : Vec F S2048 .f32) (y : S2048.Idx) :
    ∃ pc ∈ ([⟨wholeOut, p0⟩] : List (View.Piece (Elt F) S2048 .f32)), y ∈ pc.1.set :=
  View.cover_of_tiled [⟨wholeOut, p0⟩] S2048.size (by rfl) y

set_option maxHeartbeats 1000000 in
/-- The loss body on whole buffers leaves its inputs as they were and `lossOut` of them in the result's block. -/
theorem bodyLoss (c : Dev nD) (E : Set ℕ) (i : grid1.Coords) (arg1 : Memref sig .tc .vmem S1x128 .f32) (harg1 : arg1.IsWhole)
    (arg2 : Memref sig .tc .vmem S2048x1024 .i8) (harg2 : arg2.IsWhole) (arg3 : Memref sig .tc .vmem S2048x1024 .f32) (harg3 : arg3.IsWhole)
    (arg4 : Memref sig .tc .vmem S2048x1024 .f32) (harg4 : arg4.IsWhole) (arg5 : Memref sig .tc .vmem S2048 .f32) (harg5 : arg5.IsWhole)
    (x0 : Vec F S1x128 .f32) (x1 : Vec F S2048x1024 .i8) (x2 : Vec F S2048x1024 .f32) (x3 : Vec F S2048x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (lossOut x0 x1 x2 x3)) -∗ K ⟨⟩))
      ⊢ wp frame (wpE (defs₀ (F := F)) Variants.none c none) E
          (cc1__loss_kernel i arg1 harg1 arg2 harg2 arg3 harg3 arg4 harg4 arg5 harg5) K := by
  simp only [cc1__loss_kernel_eq_skeleton, k1_part1_eq_skeleton, k1_part2_eq_skeleton]; unfold cc1__loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (lossCover (F := F) _)

/-- The call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => lossOut (iblk1 V c 0 t) (iblk1 V c 1 t) (iblk1 V c 2 t) (iblk1 V c 3 t)
  Φ _ := Pipeline.ΦA spec1 c
  q _ := fullShare
  owed _ := 0

/-- The arrays of call 1 at entry. -/
theorem A_eq1 (c : Dev nD) (w : Fin cfg1.W) : (dat1 V c).A w = V c (Pipeline.arrRef spec1 w) := by dsimp only [dat1]
/-- What the body of call 1 leaves in the first window's buffer. -/
theorem after1_0 (c : Dev nD) (t : Fin cfg1.N) : (dat1 V c).after 0 t = iblk1 V c 0 t := by dsimp only [dat1]
/-- What the body of call 1 finds in the first window's buffer. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]) t d).trans
    (by unfold Dat.fetched Dat.blockOf iblk1; rw [A_eq1]; rfl)
/-- What the body of call 1 leaves in the second window's buffer. -/
theorem after1_1 (c : Dev nD) (t : Fin cfg1.N) : (dat1 V c).after 1 t = iblk1 V c 1 t := by dsimp only [dat1]
/-- What the body of call 1 finds in the second window's buffer. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]) t d).trans
    (by unfold Dat.fetched Dat.blockOf iblk1; rw [A_eq1]; rfl)
/-- What the body of call 1 leaves in the third window's buffer. -/
theorem after1_2 (c : Dev nD) (t : Fin cfg1.N) : (dat1 V c).after 2 t = iblk1 V c 2 t := by dsimp only [dat1]
/-- What the body of call 1 finds in the third window's buffer. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]) t d).trans
    (by unfold Dat.fetched Dat.blockOf iblk1; rw [A_eq1]; rfl)
/-- What the body of call 1 leaves in the fourth window's buffer. -/
theorem after1_3 (c : Dev nD) (t : Fin cfg1.N) : (dat1 V c).after 3 t = iblk1 V c 3 t := by dsimp only [dat1]
/-- What the body of call 1 finds in the fourth window's buffer. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]) t d).trans
    (by unfold Dat.fetched Dat.blockOf iblk1; rw [A_eq1]; rfl)
/-- What the body of call 1 leaves in the fifth window's buffer. -/
theorem after1_4 (c : Dev nD) (t : Fin cfg1.N) : (dat1 V c).after 4 t
    = lossOut (iblk1 V c 0 t) (iblk1 V c 1 t) (iblk1 V c 2 t) (iblk1 V c 3 t) := by dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [after1_0, after1_1, after1_2, after1_3, after1_4]
  rw [show (dat1 V c).owesAt () t.succ = (dat1 V c).owesAt () t.castSucc from rfl,
    show (dat1 V c).Φ t.succ = (dat1 V c).Φ t.castSucc from rfl]
  iintro ⟨Hφ, Ho, ⟨%d0, H0⟩, ⟨%d1, H1⟩, ⟨%d2, H2⟩, ⟨%d3, H3⟩, ⟨%d4, H4⟩⟩
  iapply (bodyLoss c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [Hφ]; · iexact Hφ
  isplitl [Ho]; · iexact Ho
  isplitl [H0]; · iexact H0
  isplitl [H1]; · iexact H1
  isplitl [H2]; · iexact H2
  isplitl [H3]; · iexact H3
  iexact H4

/-- The body table's row at point `t`. -/
theorem defs₀_row1 (t : Fin cfg1.N) : defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.Ideal.Assembly.lean ====
/- The whole program: the histogram call and then the loss call, from the launch to the return. -/
module

public import proofs.«01_k».proof.Proof.Ideal.LossRegion
public import Idealize.ShloMosaic.Lib.Pipeline.FrameBody
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer of a core at the launch. -/
abbrev B0 : Dev nD → Valuation τ sig (Elt F) := fun c b => (s₀ m ρ).mem ((c : Dev nD), b)
/-- The same at the core's own names. -/
abbrev U0 : (c : Dev nD) → (b : Ref sig .tc) → Buf (Elt F) ((c : Thread nD τ).loc b) := fun c b => B0 m ρ c b

/-- Every buffer of a core after call 0: its arrays at what the call leaves, the others as before. -/
def B1 (c : Dev nD) : Valuation τ sig (Elt F) :=
  Pipeline.withArrays spec0 c (B0 m ρ c) fun w => (dat0 (U0 m ρ) c).arrAt w cfg0.N
/-- The same at the core's own names. -/
abbrev U1 : (c : Dev nD) → (b : Ref sig .tc) → Buf (Elt F) ((c : Thread nD τ).loc b) := fun c b => B1 m ρ c b
/-- One of the call's arrays afterwards. -/
theorem B1_arr (c : Dev nD) (w : Fin cfg0.W) :
    B1 m ρ c (Proc.devRef .tc (Pipeline.arrRef spec0 w)) = (dat0 (U0 m ρ) c).arrAt w cfg0.N := by
  unfold B1; exact Pipeline.withArrays_arr spec0 launch0.win.arr_inj c _ _ w
/-- A buffer that is none of its arrays. -/
theorem B1_other (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- One of its input arrays is left as it was. -/
theorem B1_in (c : Dev nD) (w : Fin cfg0.W) (hw : (cfg0.win w).isOut = false) :
    B1 m ρ c (Proc.devRef .tc (Pipeline.arrRef spec0 w)) = B0 m ρ c (Proc.devRef .tc (Pipeline.arrRef spec0 w)) :=
  (B1_arr m ρ c w).trans (((dat0 (U0 m ρ) c).arrAt_in w hw _).trans (A_eq0 (U0 m ρ) c w))
/-- What call 0 leaves in an array is what `U1` has there. -/
theorem left0 (c : Dev nD) (w : Fin cfg0.W) : (dat0 (U0 m ρ) c).arrAt w cfg0.N = U1 m ρ c (Pipeline.arrRef spec0 w) :=
  (B1_arr m ρ c w).symm
/-- A buffer that is none of the arrays of call 0 is the same in `U1`. -/
theorem kept0 (c : Dev nD) : ∀ b, b ∉ Finset.univ.image (Pipeline.arrRef spec0) → U1 m ρ c b = U0 m ρ c b :=
  fun b hb => B1_other m ρ c b fun w e => hb (Finset.mem_image.mpr ⟨w, Finset.mem_univ _, e⟩)

/-- Every buffer of a core after call 1: its arrays at what the call leaves, the others as before. -/
def B2 (c : Dev nD) : Valuation τ sig (Elt F) :=
  Pipeline.withArrays spec1 c (B1 m ρ c) fun w => (dat1 (U1 m ρ) c).arrAt w cfg1.N
/-- The same at the core's own names. -/
abbrev U2 : (c : Dev nD) → (b : Ref sig .tc) → Buf (Elt F) ((c : Thread nD τ).loc b) := fun c b => B2 m ρ c b
/-- One of the call's arrays afterwards. -/
theorem B2_arr (c : Dev nD) (w : Fin cfg1.W) :
    B2 m ρ c (Proc.devRef .tc (Pipeline.arrRef spec1 w)) = (dat1 (U1 m ρ) c).arrAt w cfg1.N := by
  unfold B2; exact Pipeline.withArrays_arr spec1 launch1.win.arr_inj c _ _ w
/-- A buffer that is none of its arrays. -/
theorem B2_other (c : Dev nD) (b : Ref sig .tc) (hb : ∀ w, Pipeline.arrRef spec1 w ≠ b) :
    B2 m ρ c (Proc.devRef .tc b) = B1 m ρ c (Proc.devRef .tc b) := by
  unfold B2; exact Pipeline.withArrays_of_ne spec1 c _ _ b hb
/-- One of its input arrays is left as it was. -/
theorem B2_in (c : Dev nD) (w : Fin cfg1.W) (hw : (cfg1.win w).isOut = false) :
    B2 m ρ c (Proc.devRef .tc (Pipeline.arrRef spec1 w)) = B1 m ρ c (Proc.devRef .tc (Pipeline.arrRef spec1 w)) :=
  (B2_arr m ρ c w).trans (((dat1 (U1 m ρ) c).arrAt_in w hw _).trans (A_eq1 (U1 m ρ) c w))
/-- What call 1 leaves in an array is what `U2` has there. -/
theorem left1 (c : Dev nD) (w : Fin cfg1.W) : (dat1 (U1 m ρ) c).arrAt w cfg1.N = U2 m ρ c (Pipeline.arrRef spec1 w) :=
  (B2_arr m ρ c w).symm
/-- A buffer that is none of the arrays of call 1 is the same in `U2`. -/
theorem kept1 (c : Dev nD) : ∀ b, b ∉ Finset.univ.image (Pipeline.arrRef spec1) → U2 m ρ c b = U1 m ρ c b :=
  fun b hb => B2_other m ρ c b fun w e => hb (Finset.mem_image.mpr ⟨w, Finset.mem_univ _, e⟩)

/-- The logits are as launched before the second call, -/
theorem B1_arg0 (c : Dev nD) : B1 m ρ c (Proc.devRef .tc main_arg0) = m ((c : Thread nD τ).loc main_arg0) := B1_in m ρ c 0 rfl
/-- and so are the targets; -/
theorem B1_arg1 (c : Dev nD) : B1 m ρ c (Proc.devRef .tc main_arg1) = m ((c : Thread nD τ).loc main_arg1) := B1_in m ρ c 1 rfl
/-- and both are at the return. -/
theorem B2_arg0 (c : Dev nD) : B2 m ρ c (Proc.devRef .tc main_arg0) = m ((c : Thread nD τ).loc main_arg0) :=
  (B2_in m ρ c 2 rfl).trans (B1_arg0 m ρ c)
/-- The targets at the return are as launched. -/
theorem B2_arg1 (c : Dev nD) : B2 m ρ c (Proc.devRef .tc main_arg1) = m ((c : Thread nD τ).loc main_arg1) :=
  (B2_in m ρ c 3 rfl).trans (B1_arg1 m ρ c)

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U1 m ρ) c
/-- No loop needs a variant. -/
abbrev 𝒱₀ : Variants := Variants.none
/-- No semaphore carries a tally. -/
abbrev L : GSem nD τ sig → Finset Unit := fun _ => ∅
/-- So no tally has a level. -/
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- What a core holds at the return. -/
abbrev Tend (c : Dev nD) : sProp 𝕄 := iprop(StableHlo.held (c : Thread nD τ) (Pipeline.ucRefs τ sig) (B2 m ρ c) ∗ ∃ r, prngReg c r)

/-- A buffer outside every scope is among the core's buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Call 0 as a segment: it takes every unscoped buffer at `B0` and gives them back at `B1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) (A_eq0 (U0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (U0 m ρ) c
    unfold Pipeline.ΦA at h
    rw [show (pdats m ρ 0 c).Φ 0 = (dat0 (U0 m ρ) c).Φ 0 from rfl]
    iintro ⟨Hp, -, Hr⟩
    iapply h
    isplitl [Hr]; · iexact Hr
    iexact Hp
  hout c := by
    have h := hout0 (U0 m ρ) c
    unfold Pipeline.ΦA at h
    rw [Pipeline.ownSems0_none, show (pdats m ρ 0 c).Φ (Fin.last _) = (dat0 (U0 m ρ) c).Φ (Fin.last cfg0.N) from rfl]
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: it takes every unscoped buffer at `B1` and gives them back at `B2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m ρ) c).loose
  hwaits := Pipeline.hwaits_of_owed_zero _ _ _ _ L lv 1 fun _ _ => rfl
  pre c := iprop(StableHlo.held (c : Thread nD τ) (Pipeline.ucRefs τ sig) (B1 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U1 m ρ c) (A_eq1 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U1 m ρ c) (U2 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments. -/
abbrev segs : List (Pipeline.Seg (pcfgs (F := F)) adm (pdats m ρ) () defs₀ 𝒱₀ L lv) := [.region (reg0 m ρ), .region (reg1 m ρ)]
/-- The program runs them in order. -/
theorem main_run (c : Dev nD) : main (F := F) c = Pipeline.Seg.run (segs m ρ) := (main_chain c).trans (by chain_rfl)
/-- No semaphore outlives the calls. -/
theorem no_unscoped : ∀ sm : SemLoc sig, sm.isScoped .tc = true := by decide

set_option backward.isDefEq.respectTransparency.types false in
/-- Every execution ends, nothing faulting, with each unscoped buffer at `B2` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = B2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m ρ c b)
    (hfin := fun c s' => by
      iintro ⟨⟨Hh, -⟩, HSI⟩
      unfold StableHlo.held
      imodintro
      iapply (pointsTo_read_all (Pipeline.ucRefs τ sig) (fun b => (((c : Thread nD τ)).1, b)) (B2 m ρ c) s')
      isplitl [Hh] <;> iassumption)
    (hQ := fun s h hz => ⟨h, funext fun g => hz g (.inr (no_unscoped g.2))⟩)

/-- The frame: every execution ends, nothing faulting, the arguments as launched and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (B2_arg0 m ρ c),
     (h.1 c _ (mem_uc main_arg1 (by decide))).trans (B2_arg1 m ρ c)⟩, h.2⟩) (run_all m ρ)

/-- The value: the result ends at what the second call leaves in its output array, the arguments as launched. -/
theorem run_value : θ_run defs (onTc (τ := τ) (main (F := F))) ⟨m, fun _ => 0, ρ⟩ (fun r => ∀ c : Dev nD,
      r.2.mem ((c.tc : Thread nD τ).loc main_v1) = (dat1 (U1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.1 c _ (mem_uc main_v1 (by decide))).trans (B2_arr m ρ c 4),
     (h.1 c _ (mem_uc main_arg0 (by decide))).trans (B2_arg0 m ρ c),
     (h.1 c _ (mem_uc main_arg1 (by decide))).trans (B2_arg1 m ρ c)⟩) (run_all m ρ)

end Cert.KernelIdeal.Own

end
-- ==== Proof.Ideal.Planes.lean ====
/- The arithmetic of the bit planes: the carry-save adder keeps the number of set bits, the ripple addition adds into the
   number the planes spell, and a point adds to it the number of its row slices with the bit set. -/
module

public import proofs.«01_k».proof.Proof.Ideal.HistRegion
public import Mathlib.Data.Nat.ModEq
public import Idealize.ShloMosaic.Lib.Pipeline.ValueKit.Tiles

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Bits -/

/-- Bit `k` of the word at `i`, as a number. -/
def bt (k : ℕ) (w : W8) (i : S8x1024.Idx) : ℕ := ((w i).getLsbD k).toNat

/-- How many words of a stack have bit `k` set at `i`. -/
def tally (k : ℕ) (st : List W8) (i : S8x1024.Idx) : ℕ := (st.map fun w => bt k w i).sum

/-- A bit is at most one. -/
theorem bt_le (k : ℕ) (w : W8) (i) : bt k w i ≤ 1 := Bool.toNat_le _

/-- A full adder keeps the number of set bits. -/
theorem bt_full (k : ℕ) (a b c : W8) (i) (h : k < 32) :
    bt k (xori (xori a b) c) i + 2 * bt k (ori (andi a b) (andi (xori a b) c)) i = bt k a i + bt k b i + bt k c i := by
  simp only [bt, xori, ori, andi, IntOp.xori, IntOp.ori, IntOp.andi, BitVec.getLsbD_xor, BitVec.getLsbD_or, BitVec.getLsbD_and]
  cases (a i).getLsbD k <;> cases (b i).getLsbD k <;> cases (c i).getLsbD k <;> rfl

/-- A half adder keeps the number of set bits. -/
theorem bt_half (k : ℕ) (a b : W8) (i) : bt k (xori a b) i + 2 * bt k (andi a b) i = bt k a i + bt k b i := by
  simp only [bt, xori, andi, IntOp.xori, IntOp.andi, BitVec.getLsbD_xor, BitVec.getLsbD_and]
  cases (a i).getLsbD k <;> cases (b i).getLsbD k <;> rfl

/-- No words, no bits. -/
theorem tally_nil (k : ℕ) (i) : tally k [] i = 0 := rfl
/-- The bits of a longer list are those of its head and of its tail. -/
theorem tally_cons (k : ℕ) (a : W8) (st i) : tally k (a :: st) i = bt k a i + tally k st i := by
  simp [tally]

/-- The carry-save adder keeps the number of set bits, a carry counting twice. -/
theorem csaGo_tally (k : ℕ) (h : k < 32) (i) : ∀ (a : W8) (st acc : List W8),
    bt k (csaGo a st acc).1 i + 2 * tally k (csaGo a st acc).2 i = tally k (a :: st) i + 2 * tally k acc i
  | a, [], acc => by simp [csaGo, tally_cons, tally_nil]
  | a, [y], acc => by
    have := bt_half k y a i
    simp only [csaGo, tally_cons, tally_nil]
    omega
  | a, b :: c :: rest, acc => by
    have h1 := bt_full k a b c i h
    have h2 := csaGo_tally k h i (xori (xori a b) c) rest (ori (andi a b) (andi (xori a b) c) :: acc)
    simp only [csaGo, tally_cons] at h2 ⊢
    omega

/-- It leaves half as many carries. -/
theorem csaGo_length : ∀ (a : W8) (st acc : List W8), (csaGo a st acc).2.length = (st.length + 1) / 2 + acc.length
  | a, [], acc => by simp [csaGo]
  | a, [y], acc => by simp [csaGo]; omega
  | a, b :: c :: rest, acc => by
    rw [csaGo, csaGo_length]
    simp only [List.length_cons]
    omega

/-! ## The number the planes spell -/

/-- The planes as a function of the level. -/
abbrev Planes : Type := ℕ → W8

/-- Levels `l, …, l + n - 1` after adding `c` at level `l`, without the last carry. -/
def rip : (n l : ℕ) → W8 → Planes → Planes
  | 0, _, _, P => P
  | n + 1, l, c, P => rip n (l + 1) (andi (P l) c) (Function.update P l (xori (P l) c))

/-- The number spelt at `i` by bit `k` of the planes below `n`. -/
def spell (k : ℕ) (P : Planes) (n : ℕ) (i : S8x1024.Idx) : ℕ := ∑ l ∈ Finset.range n, 2 ^ l * bt k (P l) i

/-- A carry entering at level `l` leaves the lower planes. -/
theorem rip_below : ∀ (n l : ℕ) (c : W8) (P : Planes) (j : ℕ), j < l → rip n l c P j = P j
  | 0, _, _, _, _, _ => rfl
  | n + 1, l, c, P, j, h => by
    rw [rip, rip_below n (l + 1) _ _ j (by omega), Function.update_of_ne (by omega)]

/-- Replacing one plane changes the number spelled by that plane's share. -/
theorem spell_update (k : ℕ) (P : Planes) (n l : ℕ) (hl : l < n) (w : W8) (i) :
    spell k (Function.update P l w) n i + 2 ^ l * bt k (P l) i = spell k P n i + 2 ^ l * bt k w i := by
  unfold spell
  rw [← Finset.add_sum_erase _ _ (Finset.mem_range.mpr hl), ← Finset.add_sum_erase _ (fun x => 2 ^ x * bt k (P x) i) (Finset.mem_range.mpr hl)]
  rw [Function.update_self]
  rw [Finset.sum_congr rfl (g := fun x => 2 ^ x * bt k (P x) i)]
  · omega
  · intro x hx
    rw [Function.update_of_ne (Finset.ne_of_mem_erase hx)]

/-- Rippling `c` in at level `l` adds `2 ^ l` where its bit is set, modulo the planes' range. -/
theorem rip_spell (k : ℕ) (i) : ∀ (n l : ℕ) (_ : l + n = 12) (c : W8) (P : Planes),
    Nat.ModEq 4096 (spell k (rip n l c P) 12 i) (spell k P 12 i + 2 ^ l * bt k c i)
  | 0, l, h, c, P => by
    have : l = 12 := by omega
    subst this
    rw [rip]
    exact (Nat.add_mul_mod_self_left _ 4096 _).symm
  | n + 1, l, h, c, P => by
    rw [rip]
    refine (rip_spell k i n (l + 1) (by omega) _ _).trans ?_
    have h1 := spell_update k P 12 l (by omega) (xori (P l) c) i
    have h2 := bt_half k (P l) c i
    have h3 : spell k (Function.update P l (xori (P l) c)) 12 i + 2 ^ (l + 1) * bt k (andi (P l) c) i
        = spell k P 12 i + 2 ^ l * bt k c i := by
      have h4 : 2 ^ l * bt k (xori (P l) c) i + 2 ^ (l + 1) * bt k (andi (P l) c) i = 2 ^ l * bt k (P l) i + 2 ^ l * bt k c i := by
        rw [pow_succ, mul_assoc, ← Nat.mul_add, h2, Nat.mul_add]
      omega
    rw [h3]

/-- The passes on the planes alone. -/
def run : (n l : ℕ) → List W8 → Planes → Planes
  | 0, _, _, P => P
  | _ + 1, _, [], P => P
  | n + 1, l, a :: st, P => run n (l + 1) (csaGo a st []).2 (rip (12 - l) l (csaGo a st []).1 P)

/-- The passes from level `l` add `2 ^ l` for each word of the stack with the bit set, if there are passes enough. -/
theorem run_spell (k : ℕ) (hk : k < 32) (i) : ∀ (n l : ℕ) (_ : l + n ≤ 12) (st : List W8) (_ : st.length < 2 ^ n) (P : Planes),
    Nat.ModEq 4096 (spell k (run n l st P) 12 i) (spell k P 12 i + 2 ^ l * tally k st i)
  | 0, l, h, [], hst, P => by rw [run, tally_nil, Nat.mul_zero, Nat.add_zero]
  | 0, l, h, a :: st, hst, P => by simp at hst
  | n + 1, l, h, [], hst, P => by rw [run, tally_nil, Nat.mul_zero, Nat.add_zero]
  | n + 1, l, h, a :: st, hst, P => by
    rw [run]
    refine (run_spell k hk i n (l + 1) (by omega) _ (by rw [csaGo_length]; simp at hst ⊢; omega) _).trans ?_
    refine (Nat.ModEq.add_right _ (rip_spell k i (12 - l) l (by omega) _ P)).trans ?_
    have h1 := csaGo_tally k hk i a st []
    rw [tally_nil, Nat.mul_zero, Nat.add_zero] at h1
    rw [← h1, Nat.mul_add, pow_succ, mul_assoc, Nat.add_assoc]

/-- The number is within the planes' range. -/
theorem spell_lt (k : ℕ) (P : Planes) (i) : ∀ n, spell k P n i < 2 ^ n
  | 0 => by simp [spell]
  | n + 1 => by
    have h := spell_lt k P i n
    have h1 := bt_le k (P n) i
    unfold spell at h ⊢
    rw [Finset.sum_range_succ, pow_succ]
    have : 2 ^ n * bt k (P n) i ≤ 2 ^ n * 1 := Nat.mul_le_mul_left _ h1
    omega

/-! ## From the stores to the planes -/

/-- Plane `l` of the planes' contents. -/
def planeOf (xs : Vec F S12x8x1024 .i32) (l : ℕ) (h : l < 12) : W8 :=
  shapeCast S8x1024 (View.ld xs (pl l h)) shapeCasts_S1x8x1024_S8x1024

/-- All of them, as a function of the level. -/
def planesOf (xs : Vec F S12x8x1024 .i32) : Planes := fun l => if h : l < 12 then planeOf xs l h else fun _ => 0

/-- Below twelve the planes are the scratch's rows. -/
theorem planesOf_lt (xs : Vec F S12x8x1024 .i32) (l : ℕ) (h : l < 12) : planesOf xs l = planeOf xs l h := dif_pos h

/-- A store to a plane is read back, -/
theorem planeOf_store (l : ℕ) (h : l < 12) (w : W8) (L : Pcs F) :
    planeOf (View.canon (⟨pl l h, shapeCast S1x8x1024 w shapeCasts_S8x1024_S1x8x1024⟩ :: L)) l h = w := by
  funext i
  unfold planeOf
  have e : ∀ x, View.ld (View.canon (⟨pl l h, shapeCast S1x8x1024 w shapeCasts_S8x1024_S1x8x1024⟩ :: L)) (pl l h) x
      = shapeCast S1x8x1024 w shapeCasts_S8x1024_S1x8x1024 x := fun x => View.canon_cons_emb _ _ _ x
  refine (e _).trans ?_
  unfold shapeCast
  rw [Shape.reshapeEquiv_reshapeEquiv, Shape.reshapeEquiv_self]

/-- and the others are as before. -/
theorem ld_other (l l' : ℕ) (h : l < 12) (h' : l' < 12) (hne : l' ≠ l) (w) (L : Pcs F) :
    View.ld (View.canon (⟨pl l h, w⟩ :: L)) (pl l' h') = View.ld (View.canon L) (pl l' h') := by
  funext x
  refine View.canon_cons_of_not_mem _ _ fun hm => ?_
  have h1 := (Rect.mem_set_unit (inb := plane_ok l h)).mp hm 0
  have h2 := Rect.idx_unit_val (s := S12x8x1024) (off := ![l', 0, 0]) (size := S1x8x1024.size) (inb := plane_ok l' h') x 0
  have h3 : (x 0).val < 1 := (x 0).isLt
  have h4 : ((pl l' h').idx x 0).val = l' + (x 0).val := h2
  rw [h4] at h1
  have h5 : l ≤ l' + (x 0).val ∧ l' + (x 0).val < l + 1 := h1
  omega

/-- A way of reading planes that does not see the stores to lower ones. -/
def Upward (rd : Rd F) : Prop :=
  ∀ (L : Pcs F) (l l' : ℕ) (h : l < 12) (h' : l' < 12) (w), l < l' → rd (⟨pl l h, w⟩ :: L) l' h' = rd L l' h'

/-- Reading the planes as they were at entry sees no store. -/
theorem upward_rdOf (xs : Vec F S12x8x1024 .i32) : Upward (rdOf xs) := fun _ _ _ _ _ _ _ => rfl

/-- Reading back after writes to lower planes does not see them. -/
theorem upward_rdBack : Upward (rdBack (F := F)) := fun L l l' h h' w hl => ld_other l l' h h' (by omega) w L

/-- The ripple's stores leave the planes at `rip`. -/
theorem ripple_planes (rd : Rd F) (hrd : Upward rd) : ∀ (n l : ℕ) (h : l + n ≤ 12) (_ : l + n = 12) (c : W8) (L : Pcs F) (P : Planes)
    (_ : ∀ l' h', l' < l → planeOf (View.canon L) l' h' = P l')
    (_ : ∀ l' h', l ≤ l' → shapeCast S8x1024 (rd L l' h') shapeCasts_S1x8x1024_S8x1024 = P l') (l' : ℕ) (h' : l' < 12),
    planeOf (View.canon (ripple rd n l h c L)) l' h' = rip n l c P l'
  | 0, l, h, hn, c, L, P, hlo, hhi, l', h' => by
    rw [ripple, rip]; exact hlo l' h' (by omega)
  | n + 1, l, h, hn, c, L, P, hlo, hhi, l', h' => by
    rw [ripple, rip]
    rw [hhi l (by omega) (le_refl _)]
    refine ripple_planes rd hrd n (l + 1) _ (by omega) _ _ _ ?_ ?_ l' h'
    · intro j hj hjl
      by_cases e : j = l
      · subst e
        rw [planeOf_store, Function.update_self]
      · rw [Function.update_of_ne e, ← hlo j hj (by omega)]
        unfold planeOf
        rw [ld_other l j (by omega) hj e]
    · intro j hj hjl
      rw [hrd L l j (by omega) hj _ (by omega), Function.update_of_ne (by omega)]
      exact hhi j hj (by omega)

/-- The passes' stores leave the planes at `run`. -/
theorem passes_planes : ∀ (n l : ℕ) (h : l + n ≤ 12) (st : List W8) (L : Pcs F) (P : Planes)
    (_ : ∀ l' h', planeOf (View.canon L) l' h' = P l') (l' : ℕ) (h' : l' < 12),
    planeOf (View.canon (passes rdBack n l h st L)) l' h' = run n l st P l'
  | 0, _, _, _, _, _, hP, l', h' => hP l' h'
  | _ + 1, _, _, [], _, _, hP, l', h' => hP l' h'
  | n + 1, l, h, a :: st, L, P, hP, l', h' => by
    rw [passes, run]
    exact passes_planes n (l + 1) _ _ _ _ (fun j hj =>
      ripple_planes rdBack upward_rdBack (12 - l) l _ (by omega) _ L P (fun i hi _ => hP i hi) (fun i hi _ => hP i hi) j hj) l' h'

/-- The list of slices has the length asked for. -/
theorem slicesDown_length (v : IVec S2048x1024 32) : ∀ (n : ℕ) (h : n ≤ 256), (slicesDown v n h).length = n
  | 0, _ => rfl
  | n + 1, h => by rw [slicesDown, List.length_cons, slicesDown_length v n]

/-- A point's stores leave the planes at `run` of the row slices. -/
theorem pcs_planes (rd0 : Rd F) (h0 : Upward rd0) (v : IVec S2048x1024 32) (L : Pcs F) (P : Planes)
    (hP : ∀ l' h', shapeCast S8x1024 (rd0 L l' h') shapeCasts_S1x8x1024_S8x1024 = P l') (l' : ℕ) (h' : l' < 12) :
    planeOf (View.canon (pcs rd0 rdBack v L)) l' h' = run 9 0 (slicesDown v 256 (le_refl _)) P l' := by
  unfold pcs
  have hlen := slicesDown_length v 256 (le_refl _)
  rcases hs : slicesDown v 256 (le_refl _) with _ | ⟨a, st⟩
  · rw [hs] at hlen; simp at hlen
  · rw [run]
    exact passes_planes 8 1 _ _ _ _ (fun j hj =>
      ripple_planes rd0 h0 12 0 _ rfl _ L P (fun i _ hi => absurd hi (Nat.not_lt_zero _)) (fun i hi _ => hP i hi) j hj) l' h'

/-- The number spelled depends only on the planes read. -/
theorem spell_congr (k : ℕ) (P Q : Planes) (n : ℕ) (i) (h : ∀ l, l < n → P l = Q l) : spell k P n i = spell k Q n i :=
  Finset.sum_congr rfl fun l hl => by rw [h l (Finset.mem_range.mp hl)]

/-- The number of a block's row slices with bit `k` set at `i`. -/
def hits (k : ℕ) (v : IVec S2048x1024 32) (i : S8x1024.Idx) : ℕ :=
  ∑ m : Fin 256, bt k (extractStridedSlice S8x1024 ![8 * m.val, 0] v (slice_ok m.val m.isLt)) i

/-- The bits of the slices, summed, are the sum over the slices. -/
theorem tally_slicesDown (k : ℕ) (v : IVec S2048x1024 32) (i) : ∀ (n : ℕ) (h : n ≤ 256),
    tally k (slicesDown v n h) i = ∑ m : Fin n, bt k (extractStridedSlice S8x1024 ![8 * m.val, 0] v (slice_ok m.val (by omega))) i
  | 0, _ => rfl
  | n + 1, h => by
    rw [slicesDown, tally_cons, tally_slicesDown k v i n, Fin.sum_univ_castSucc, Nat.add_comm]
    rfl

/-- A point after the first adds to the number the planes spell the number of its row slices with the bit set. -/
theorem stepPl_spell (k : ℕ) (hk : k < 32) (x0 x1 : Vec F S2048x1024 .f32) (xs : Vec F S12x8x1024 .i32) (i) :
    Nat.ModEq 4096 (spell k (planesOf (stepPl x0 x1 xs)) 12 i) (spell k (planesOf xs) 12 i + hits k (k0_pay253 x0 x1) i) := by
  rw [spell_congr k (planesOf (stepPl x0 x1 xs)) (run 9 0 (slicesDown (k0_pay253 x0 x1) 256 (le_refl _)) (planesOf xs)) 12 i fun l hl => by
    rw [planesOf_lt _ l hl]
    exact pcs_planes (rdOf xs) (upward_rdOf xs) _ [] _ (fun j hj => (planesOf_lt xs j hj).symm) l hl]
  have h := run_spell k hk i 9 0 (by omega) (slicesDown (k0_pay253 x0 x1) 256 (le_refl _)) (by rw [slicesDown_length]; decide) (planesOf xs)
  rw [tally_slicesDown, pow_zero, Nat.one_mul] at h
  exact h

/-- The first point leaves the planes spelling the number of its row slices with the bit set. -/
theorem firstPl_spell (k : ℕ) (hk : k < 32) (x0 x1 : Vec F S2048x1024 .f32) (i) :
    Nat.ModEq 4096 (spell k (planesOf (firstPl x0 x1)) 12 i) (hits k (k0_pay253 x0 x1) i) := by
  rw [spell_congr k (planesOf (firstPl x0 x1)) (run 9 0 (slicesDown (k0_pay253 x0 x1) 256 (le_refl _)) fun _ _ => 0) 12 i fun l hl => by
    rw [planesOf_lt _ l hl]
    refine pcs_planes rdBack upward_rdBack _ _ _ (fun j hj => ?_) l hl
    funext y
    show View.ld (View.canon _) _ _ = _
    rw [View.canon_cons_unit_lit _ _ _ (fun a => by fin_cases a <;> rfl)]
    rfl]
  have h := run_spell k hk i 9 0 (by omega) (slicesDown (k0_pay253 x0 x1) 256 (le_refl _)) (by rw [slicesDown_length]; decide) fun _ _ => 0
  rw [tally_slicesDown, pow_zero, Nat.one_mul, show spell k (fun _ _ => 0) 12 i = 0 from by simp [spell, bt], Nat.zero_add] at h
  exact h

end Cert.KernelIdeal.Own

end
-- ==== Proof.Ideal.Bins.lean ====
/- The bins on the extended reals: the word of an element, its range on a target in the unit interval, and the number of set
   bits a plane holds as a number of elements of a bin. -/
module

public import proofs.«01_k».proof.Proof.Ideal.Planes
public import proofs.«01_k».proof.Proof.Gen.Pre_target_in_unit
public import proofs.«01_k».proof.Defs
public import Idealize.ShloMosaic.Lib.ReduceAll
public import Idealize.ShloMosaic.Lib.IdealHost
public import Idealize.ShloMosaic.Lib.ValueIdx
public import Idealize.ShloMosaic.Lib.WordArith
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.ValueIdx Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The distance of the target from the predicted probability. -/
def gap (x t : EReal) : EReal := max (Ideal.logistic x - t) (-(Ideal.logistic x - t))

/-- The bin of an element, as a word. -/
def binWord (x t : EReal) : BitVec 32 :=
  Ideal.fptosi 32 (Ideal.liftRound Int.floor (gap x t * Ideal.ofBits .f32 0x41EFFFCC#32))

/-- The number of bins, as the kernel rounds it: positive and below thirty. -/
theorem scale_real : ∃ q : ℝ, Ideal.ofBits .f32 0x41EFFFCC#32 = (q : EReal) ∧ 0 ≤ q ∧ q < 30 := by
  refine ⟨_, by simp [Ideal.ofBits, Ideal.ieee, -EReal.coe_mul]; rfl, ?_, ?_⟩ <;> norm_num

/-- The predicted probability is a number of the unit interval. -/
theorem logistic_real (x : EReal) : ∃ s : ℝ, Ideal.logistic x = (s : EReal) ∧ 0 ≤ s ∧ s ≤ 1 := by
  induction x with
  | bot => exact ⟨0, by simp, le_refl _, zero_le_one⟩
  | top => exact ⟨1, by simp, zero_le_one, le_refl _⟩
  | coe r =>
    refine ⟨_, Ideal.logistic_coe r, by positivity, ?_⟩
    have : 0 < Real.exp (-r) := Real.exp_pos _
    exact inv_le_one_of_one_le₀ (by linarith)

/-- So the gap of a target in the unit interval is one too, -/
theorem gap_real (x t : EReal) (h0 : 0 ≤ t) (h1 : t ≤ 1) : ∃ g : ℝ, gap x t = (g : EReal) ∧ 0 ≤ g ∧ g ≤ 1 := by
  obtain ⟨s, hs, s0, s1⟩ := logistic_real x
  induction t with
  | bot => simp at h0
  | top => exact absurd h1 (not_le.2 (EReal.coe_lt_top 1))
  | coe r =>
    have r0 : (0 : ℝ) ≤ r := by exact_mod_cast h0
    have r1 : r ≤ 1 := by exact_mod_cast h1
    refine ⟨max (s - r) (-(s - r)), ?_, ?_, ?_⟩
    · unfold gap
      rw [hs, ← EReal.coe_sub, ← EReal.coe_neg]
      exact (EReal.coe_strictMono.monotone.map_max).symm
    · rcases le_total 0 (s - r) with h | h
      · exact le_max_of_le_left h
      · exact le_max_of_le_right (by linarith)
    · exact max_le (by linarith) (by linarith)

/-- and its bin is one of the thirty. -/
theorem binWord_lt (x t : EReal) (h0 : 0 ≤ t) (h1 : t ≤ 1) : (binWord x t).toNat < 30 := by
  obtain ⟨g, hg, g0, g1⟩ := gap_real x t h0 h1
  obtain ⟨q, hq, q0, q1⟩ := scale_real
  unfold binWord
  rw [hg, hq, ← EReal.coe_mul, Ideal.liftRound_coe]
  have f0 : 0 ≤ ⌊g * q⌋ := Int.floor_nonneg.2 (mul_nonneg g0 q0)
  have f1 : ⌊g * q⌋ < 30 := Int.floor_lt.2 (by push_cast; nlinarith)
  have e : Ideal.toIntClamped (-(2 ^ (32 - 1) : Nat)) ((2 ^ (32 - 1) : Nat) - 1) (((⌊g * q⌋ : ℤ) : ℝ) : EReal) = ⌊g * q⌋ := by
    show max _ (min _ (if (0 : ℝ) ≤ ((⌊g * q⌋ : ℤ) : ℝ) then ⌊((⌊g * q⌋ : ℤ) : ℝ)⌋ else ⌈((⌊g * q⌋ : ℤ) : ℝ)⌉)) = _
    rw [if_pos (by exact_mod_cast f0), Int.floor_intCast]
    omega
  unfold Ideal.fptosi
  rw [e, BitVec.toNat_ofInt]
  omega

/-- What the precondition says of an element of the targets. -/
theorem unit_of_pre (x t : FVec Ideal S16384x1024 .f32)
    (h : Cert.Pre_target_in_unit.fn (F := Ideal) x t = fun _ => 1#1) (i : S16384x1024.Idx) : (0 : EReal) ≤ t i ∧ t i ≤ (1 : EReal) := by
  haveI : Subsingleton (Cert.Pre_target_in_unit.S_).Idx := ⟨fun a b => by funext d; exact d.elim0⟩
  have e := Host.reduce_andi_all _ _ _ _ ix0 (congrFun h ix0) i
  have e' : IntOp.andi (BitVec.ofBool (decide (Ideal.ofBits .f32 0x00000000#32 ≤ t i)))
      (BitVec.ofBool (decide (t i ≤ Ideal.ofBits .f32 0x3F800000#32))) = 1#1 := e
  rw [andi_ofBool, ofBool_eq_one_iff, Bool.and_eq_true, decide_eq_true_iff, decide_eq_true_iff, Ideal.ofBits_zero_f32,
    Ideal.ofBits_one_f32] at e'
  exact e'

/-- The bins a point of the first region works on, and the one-hot words it counts with. -/
theorem pay251_apply (x t : Vec Ideal S2048x1024 .f32) (i) : k0_pay251 (F := Ideal) x t i = binWord (x i) (t i) := rfl

/-- Element by element, the one-hot word has bit `k` set exactly where the bin is `k`. -/
theorem pay253_apply (x t : Vec Ideal S2048x1024 .f32) (i) (h : (binWord (x i) (t i)).toNat < 30) (k : ℕ) (hk : k < 32) :
    ((k0_pay253 (F := Ideal) x t i).getLsbD k).toNat = if (binWord (x i) (t i)).toNat = k then 1 else 0 := by
  have e : k0_pay253 (F := Ideal) x t i = IntOp.shli .vector (1#32) (binWord (x i) (t i)) := rfl
  rw [e]
  unfold IntOp.shli
  rw [if_pos (by omega), BitVec.shiftLeft_eq', BitVec.getLsbD_shiftLeft]
  generalize (binWord (x i) (t i)).toNat = b at h ⊢
  rcases lt_trichotomy k b with hb | hb | hb
  · simp [hb, Nat.ne_of_gt hb]
  · subst hb; simp [hk]
  · have : 1#32 = BitVec.ofNat 32 1 := rfl
    have h2 : k - b ≠ 0 := by omega
    have h3 : b ≠ k := by omega
    simp [h2, h3, BitVec.getLsbD_one]

/-- The narrow bins read back wide. -/
theorem widen_narrow (w : BitVec 32) (h : w.toNat < 30) : ((w.setWidth 8).signExtend 32) = w := by
  have : w = BitVec.ofNat 32 w.toNat := by simp
  generalize w.toNat = n at this h
  subst this
  interval_cases n <;> rfl

/-! ## The value both programs compute -/

/-- How many elements of an array of words have the value `k`. -/
def binCount (b : S16384x1024.Idx → BitVec 32) (k : ℕ) : ℕ := ∑ y : S16384x1024.Idx, if (b y).toNat = k then 1 else 0

/-- The bins of a pair of arrays. -/
def binsOf (X T : S16384x1024.Idx → EReal) : S16384x1024.Idx → BitVec 32 := fun y => binWord (X y) (T y)

/-- A number of elements is at most the number of all. -/
theorem sum_ind_le {ι : Type} [Fintype ι] (p : ι → Prop) [DecidablePred p] (n : ℕ) (h : Fintype.card ι = n) :
    (∑ y : ι, if p y then 1 else 0) ≤ n := by
  rw [← Finset.card_filter, ← h]
  exact Finset.card_le_univ _

/-- A matrix has as many indices as rows times columns. -/
theorem card_idx2 (n0 n1 : ℕ) : Fintype.card (⟨2, ![n0, n1]⟩ : Shape).Idx = n0 * n1 := by
  rw [Fintype.card_congr idxEquiv2, Fintype.card_prod, Fintype.card_fin, Fintype.card_fin]

/-- A bin holds at most all elements. -/
theorem binCount_le (b : S16384x1024.Idx → BitVec 32) (k : ℕ) : binCount b k ≤ 16777216 :=
  sum_ind_le (fun y => (b y).toNat = k) 16777216 ((card_idx2 16384 1024).trans (by norm_num))

/-- How many of the thirty bins hold an element. -/
def filled (cnt : ℕ → ℕ) : ℕ := ∑ k : Fin 30, if 0 < cnt k.val then 1 else 0

/-- At most 30 bins are not empty. -/
theorem filled_le (cnt : ℕ → ℕ) : filled cnt ≤ 30 := by
  unfold filled
  refine (Finset.sum_le_card_nsmul _ _ 1 fun y _ => by split <;> omega).trans ?_
  simp

/-- The weight of bin `k`: the number of elements over the bin's, times the bins that hold one, clipped below. -/
def weight (cnt : ℕ → ℕ) (k : ℕ) : EReal :=
  Ideal.div (Ideal.ofBits .f32 0x4B800000#32)
    (max (Ideal.ofBits .f32 0x38D1B717#32) (((cnt k : ℝ) : EReal) * ((filled cnt : ℝ) : EReal)))

/-- The loss of an element. -/
def lossAt (x t : EReal) : EReal := (max x 0 - x * t) + Ideal.log1p (Ideal.exp (-(max x (-x))))

/-- The element at row `r`, column `k`. -/
def cell (r : Fin 16384) (k : Fin 1024) : S16384x1024.Idx := ix2 (n0 := 16384) (n1 := 1024) r k

/-- The result at row `r`: the mean of the row's weighted losses. -/
def answer (X T : S16384x1024.Idx → EReal) (r : Fin 16384) : EReal :=
  Ideal.div (∑ k : Fin 1024, weight (binCount (binsOf X T)) (binsOf X T (cell r k)).toNat * lossAt (X (cell r k)) (T (cell r k)))
    (Ideal.ofBits .f32 0x44800000#32)
-- ==== Proof.Ideal.Counts.lean ====
/- The counts: over the eight points the planes spell, at every column of the planes, how many of its elements fall in a bin;
   the row of counts is therefore the histogram of the bins. -/
module

public import proofs.«01_k».proof.Proof.Ideal.Bins
public import Idealize.ShloMosaic.Lib.IndicatorCount
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The element of the whole arrays that point `t` reads at row `8 m + i 0`, column `i 1` of its block. -/
def globe (t : Fin 8) (m : Fin 256) (i : S8x1024.Idx) : S16384x1024.Idx :=
  ix2 (n0 := 16384) (n1 := 1024) ⟨2048 * t.val + (8 * m.val + (i 0).val), by have h : (i 0).val < 8 := (i 0).isLt; omega⟩
    ⟨(i 1).val, (i 1).isLt⟩

/-- Every element is read once. -/
theorem globe_bijective : Function.Bijective fun p : (Fin 8 × Fin 256) × S8x1024.Idx => globe p.1.1 p.1.2 p.2 := by
  constructor
  · rintro ⟨⟨t, m⟩, i⟩ ⟨⟨t', m'⟩, i'⟩ e
    have e0 : 2048 * t.val + (8 * m.val + (i 0).val) = 2048 * t'.val + (8 * m'.val + (i' 0).val) :=
      congrArg Fin.val (congrFun e 0)
    have e1 : (i 1).val = (i' 1).val := congrArg Fin.val (congrFun e 1)
    have h : (i 0).val < 8 := (i 0).isLt
    have h' : (i' 0).val < 8 := (i' 0).isLt
    have ht : t = t' := Fin.ext (by omega)
    have hm : m = m' := Fin.ext (by omega)
    have hi : i = i' := by
      rw [eq_ix2 i, eq_ix2 i']
      have a0 : i 0 = i' 0 := Fin.ext (by omega)
      have a1 : i 1 = i' 1 := Fin.ext e1
      rw [a0, a1]
    rw [ht, hm, hi]
  · intro y
    have h0 : (y 0).val < 16384 := (y 0).isLt
    refine ⟨((⟨(y 0).val / 2048, by omega⟩, ⟨(y 0).val % 2048 / 8, by omega⟩),
      ix2 (n0 := 8) (n1 := 1024) ⟨(y 0).val % 8, by omega⟩ ⟨(y 1).val, (y 1).isLt⟩), ?_⟩
    funext a
    refine Fin.ext ?_
    match a with
    | ⟨0, _⟩ =>
      show 2048 * ((y 0).val / 2048) + (8 * ((y 0).val % 2048 / 8) + (y 0).val % 8) = (y 0).val
      omega
    | ⟨1, _⟩ => rfl

/-- So a sum over the planes' columns, the points and the row slices is a sum over the whole array. -/
theorem sum_globe (f : S16384x1024.Idx → ℕ) :
    ∑ i : S8x1024.Idx, ∑ t : Fin 8, ∑ m : Fin 256, f (globe t m i) = ∑ y, f y := by
  rw [← globe_bijective.sum_comp f, Fintype.sum_prod_type_right]
  refine Finset.sum_congr rfl fun i _ => ?_
  rw [Fintype.sum_prod_type]

/-- Where a row slice's element lies in its block. -/
def inBlock (m : Fin 256) (i : S8x1024.Idx) : S2048x1024.Idx :=
  ix2 (n0 := 2048) (n1 := 1024) ⟨8 * m.val + (i 0).val, by have h : (i 0).val < 8 := (i 0).isLt; omega⟩ ⟨(i 1).val, (i 1).isLt⟩

/-- Bit `k` of a row slice of a block is that bit of the block. -/
theorem bt_slice (k : ℕ) (v : IVec S2048x1024 32) (m : Fin 256) (i : S8x1024.Idx) :
    bt k (extractStridedSlice S8x1024 ![8 * m.val, 0] v (slice_ok m.val m.isLt)) i = ((v (inBlock m i)).getLsbD k).toNat := by
  unfold bt extractStridedSlice
  have e : (fun a => ⟨(![8 * m.val, 0] : Fin 2 → ℕ) a + (i (a.cast (slice_ok m.val m.isLt).1.symm)).val,
      Nat.lt_of_lt_of_le (Nat.add_lt_add_left (i _).isLt _) ((slice_ok m.val m.isLt).2 a)⟩ : S2048x1024.Idx) = inBlock m i := by
    funext a
    refine Fin.ext ?_
    match a with
    | ⟨0, _⟩ => rfl
    | ⟨1, _⟩ => exact Nat.zero_add _
  exact congrArg (fun y => ((v y).getLsbD k).toNat) e

section Points

variable (V : (c : Dev nD) → (b : Ref sig .tc) → Buf (Elt Ideal) ((c : Thread nD τ).loc b))

/-- The two arrays of the first region. -/
abbrev Xarr (c : Dev nD) : S16384x1024.Idx → EReal := V c (Pipeline.arrRef spec0 0)
/-- The targets of the first region. -/
abbrev Tarr (c : Dev nD) : S16384x1024.Idx → EReal := V c (Pipeline.arrRef spec0 1)

/-- Where a point's block lies in the whole arrays. -/
def under (t : Fin cfg0.N) (y : S2048x1024.Idx) : S16384x1024.Idx :=
  ix2 (n0 := 16384) (n1 := 1024) ⟨2048 * t.val + (y 0).val, by
    have h : (y 0).val < 2048 := (y 0).isLt
    have ht : t.val < 8 := Nat.lt_of_lt_of_eq t.isLt N_0
    omega⟩ ⟨(y 1).val, (y 1).isLt⟩

/-- A row slice of a point's block lies at a row slice of the whole array. -/
theorem under_row (t : Fin cfg0.N) (m : Fin 256) (i : S8x1024.Idx) : under t (inBlock m i) = globe (t.cast N_0) m i := by
  funext a
  refine Fin.ext ?_
  match a with
  | ⟨0, _⟩ => rfl
  | ⟨1, _⟩ => rfl

/-- The blocks of window 0 of the first call start at block row `t`. -/
theorem origin0_0 : ∀ t : Fin cfg0.N, win0_0.index t = ![t.val, 0] := (by decide +kernel : ∀ t : Fin grid0.N, _)
/-- The blocks of window 1 of the first call start at block row `t`. -/
theorem origin0_1 : ∀ t : Fin cfg0.N, win0_1.index t = ![t.val, 0] := (by decide +kernel : ∀ t : Fin grid0.N, _)

/-- A block of logits, read in the whole array. -/
theorem xblk_apply (c : Dev nD) (t : Fin cfg0.N) (y : S2048x1024.Idx) : xblk V c t y = Xarr V c (under t y) := by
  unfold xblk iblk0 Xarr
  blk_ext [under, origin0_0 t]

/-- A block of targets, read in the whole array. -/
theorem tblk_apply (c : Dev nD) (t : Fin cfg0.N) (y : S2048x1024.Idx) : tblk V c t y = Tarr V c (under t y) := by
  unfold tblk iblk0 Tarr
  blk_ext [under, origin0_1 t]

variable (hu : ∀ (c : Dev nD) (y : S16384x1024.Idx), (binsOf (Xarr V c) (Tarr V c) y).toNat < 30)

include hu in
/-- What a point adds at a column of the planes: one for every row slice whose element there is in bin `k`. -/
theorem hits_eq (c : Dev nD) (t : Fin cfg0.N) (k : ℕ) (hk : k < 32) (i : S8x1024.Idx) :
    hits k (k0_pay253 (xblk V c t) (tblk V c t)) i
      = ∑ m : Fin 256, if (binsOf (Xarr V c) (Tarr V c) (globe (t.cast N_0) m i)).toNat = k then 1 else 0 := by
  unfold hits
  refine Finset.sum_congr rfl fun m _ => ?_
  have e : ∀ y : S2048x1024.Idx, binWord (xblk V c t y) (tblk V c t y) = binsOf (Xarr V c) (Tarr V c) (under t y) :=
    fun y => by rw [xblk_apply, tblk_apply]; rfl
  rw [bt_slice k _ m i, pay253_apply _ _ _ (by rw [e]; exact hu c _) k hk, e, under_row]

/-- What a point adds, as a function of a natural number. -/
def gain (c : Dev nD) (k : ℕ) (i : S8x1024.Idx) (n : ℕ) : ℕ :=
  if h : n < cfg0.N then hits k (k0_pay253 (xblk V c ⟨n, h⟩) (tblk V c ⟨n, h⟩)) i else 0

/-- The planes after point `n` spell, modulo 4096, what the points so far have added, -/
theorem spell_planesAt (c : Dev nD) (k : ℕ) (hk : k < 32) (i : S8x1024.Idx) : ∀ (n : ℕ) (h : n < cfg0.N),
    Nat.ModEq 4096 (spell k (planesOf (planesAt V c n h)) 12 i) (∑ t ∈ Finset.range (n + 1), gain V c k i t)
  | 0, h => by
    rw [Finset.sum_range_one, gain, dif_pos h]
    exact firstPl_spell k hk _ _ i
  | n + 1, h => by
    rw [Finset.sum_range_succ, gain, dif_pos h]
    exact (stepPl_spell k hk _ _ _ i).trans ((spell_planesAt c k hk i n (Nat.lt_of_succ_lt h)).add_right _)

/-- and nothing is lost to the modulus. -/
theorem spell_last (c : Dev nD) (k : ℕ) (hk : k < 32) (i : S8x1024.Idx) (h7 : 7 < cfg0.N) :
    spell k (planesOf (planesAt V c 7 h7)) 12 i = ∑ t : Fin 8, gain V c k i t.val := by
  have h := spell_planesAt V c k hk i 7 h7
  rw [Finset.sum_range] at h
  refine Nat.ModEq.eq_of_lt_of_lt h (spell_lt k _ i 12) ?_
  have b : ∀ t : Fin 8, gain V c k i t.val ≤ 256 := fun t => by
    unfold gain
    split
    · unfold hits
      refine (Finset.sum_le_card_nsmul _ _ 1 fun m _ => bt_le k _ i).trans ?_
      simp
    · exact Nat.zero_le _
  refine lt_of_le_of_lt (Finset.sum_le_card_nsmul _ _ 256 fun t _ => b t) ?_
  simp

include hu in
/-- So over all columns they spell the number of elements of bin `k`. -/
theorem spell_total (c : Dev nD) (k : ℕ) (hk : k < 32) (h7 : 7 < cfg0.N) :
    ∑ i : S8x1024.Idx, spell k (planesOf (planesAt V c 7 h7)) 12 i = binCount (binsOf (Xarr V c) (Tarr V c)) k := by
  unfold binCount
  rw [← sum_globe]
  refine Finset.sum_congr rfl fun i _ => ?_
  rw [spell_last V c k hk i h7]
  refine Finset.sum_congr rfl fun t _ => ?_
  have ht : t.val < cfg0.N := Nat.lt_of_lt_of_eq t.isLt N_0.symm
  rw [gain, dif_pos ht, hits_eq V hu c ⟨t.val, ht⟩ k hk i]
  rfl

end Points
-- ==== Proof.Ideal.Row.lean ====
/- The row of counts and the table of weights, on the extended reals: entry `j` of the row is the number of elements of bin
   `j`, and the table divides the number of all elements by it. -/
module

public import proofs.«01_k».proof.Proof.Ideal.Counts
public import Idealize.ShloMosaic.Lib.ValueLayout

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The bit a level's sum adds for a word: bit `k` of the word. -/
theorem low_bit (w : BitVec 32) (k : ℕ) (hk : k < 32) :
    IntOp.andi (IntOp.shrsi .vector w (BitVec.ofNat 32 k)) 1#32 = (BitVec.ofBool (w.getLsbD k)).setWidth 32 := by
  have hn : (BitVec.ofNat 32 k).toNat = k := by rw [BitVec.toNat_ofNat]; omega
  unfold IntOp.andi IntOp.shrsi
  rw [hn, if_pos hk]
  ext j hj
  rw [BitVec.getElem_and]
  rcases Nat.eq_zero_or_pos j with h0 | h0
  · subst h0
    simp only [BitVec.shiftLeft_eq', BitVec.sshiftRight_eq', hn, ← BitVec.getLsbD_eq_getElem, BitVec.getLsbD_sshiftRight]
    simp [hk]
  · have h1 : j ≠ 0 := by omega
    simp [h1, BitVec.getElem_one]

/-- The sum over a plane of bit `k` of its words. -/
def levelCount (k : ℕ) (w : W8) : ℕ := ∑ i : S8x1024.Idx, bt k w i

/-- A level counts at most one bit per element of a plane. -/
theorem levelCount_le (k : ℕ) (w : W8) : levelCount k w ≤ 8192 := by
  unfold levelCount
  refine (Finset.sum_le_card_nsmul _ _ 1 fun i _ => bt_le k w i).trans ?_
  rw [Finset.card_univ, smul_eq_mul, mul_one, Shape.card_idx]
  decide

/-- The kernel's bit count of a plane at a bin is that level's count. -/
theorem levelBits_eq (k : ℕ) (hk : k < 32) (p : IVec S1x8x1024 32) :
    levelBits (BitVec.ofNat 32 k) p = BitVec.ofNat 32 (levelCount k (shapeCast S8x1024 p shapeCasts_S1x8x1024_S8x1024)) := by
  unfold levelBits extractAt
  refine (multiReductionI_eq_fold _ _ _ _ _ _).trans ?_
  have all : ∀ (h : S1x8x1024.Reduces [1, 2] S1) (j : S1.Idx), (Finset.univ.filter fun i => h.drop i = j) = Finset.univ := fun h j =>
    Finset.filter_true_of_mem fun i _ => by
      funext a
      have : Subsingleton (Fin (S1.size a)) := by
        match a with
        | ⟨0, _⟩ => exact (inferInstance : Subsingleton (Fin 1))
      exact Subsingleton.elim _ _
  rw [all]
  have step : (shapeCast S1x8x1024 (andi (shrsi (shapeCast S8x1024 p shapeCasts_S1x8x1024_S8x1024) (broadcast S8x1024 (BitVec.ofNat 32 k)))
      (broadcast S8x1024 1#32)) shapeCasts_S8x1024_S1x8x1024 : IVec S1x8x1024 32)
      = fun i => (BitVec.ofBool ((shapeCast S8x1024 p shapeCasts_S1x8x1024_S8x1024
          (Shape.reshapeEquiv shapeCasts_S8x1024_S1x8x1024 i)).getLsbD k)).setWidth 32 := by
    funext i
    exact low_bit _ k hk
  rw [step]
  refine (Idealize.ShloMosaic.IndicatorCount.fold_addi_setWidth_eq_card _ _).trans ?_
  refine congrArg (BitVec.ofNat 32) ?_
  rw [Finset.card_filter]
  unfold levelCount
  rw [← (Shape.reshapeEquiv shapeCasts_S8x1024_S1x8x1024).sum_comp]
  refine Finset.sum_congr rfl fun i _ => ?_
  unfold bt
  cases (shapeCast S8x1024 p shapeCasts_S1x8x1024_S8x1024 (Shape.reshapeEquiv shapeCasts_S8x1024_S1x8x1024 i)).getLsbD k <;> rfl

/-- The weight of a level. -/
theorem weight_real : ∀ n : ℕ, n < 12 →
    Ideal.ofBits .f32 (BitVec.ofNat 32 (0x3F800000 + 0x800000 * n)) = (((2 ^ n : ℕ) : ℝ) : EReal) := by
  intro n hn
  interval_cases n <;> simp [Ideal.ofBits, Ideal.ieee, -EReal.coe_mul] <;> norm_num

/-- The sum of the first `n` levels, on the extended reals. -/
theorem countTo_eq (ps : (l : ℕ) → l < 12 → IVec S1x8x1024 32) (P : Planes)
    (hP : ∀ l h, shapeCast S8x1024 (ps l h) shapeCasts_S1x8x1024_S8x1024 = P l) (k : ℕ) (hk : k < 32) : ∀ (n : ℕ) (h : n ≤ 12),
    countTo (F := Ideal) ps (BitVec.ofNat 32 k) n h = (((∑ l ∈ Finset.range n, 2 ^ l * levelCount k (P l) : ℕ) : ℝ) : EReal)
  | 0, _ => by
    rw [countTo, Finset.sum_range_zero]
    exact Ideal.ofBits_zero_f32.trans (by simp)
  | n + 1, h => by
    rw [countTo, countTo_eq ps P hP k hk n (Nat.le_of_succ_le h), Finset.sum_range_succ, levelBits_eq k hk, hP]
    have hl := levelCount_le k (P n)
    have e : (BitVec.ofNat 32 (levelCount k (P n))).toInt = (levelCount k (P n) : ℤ) := by
      rw [BitVec.toInt_eq_toNat_of_lt (by rw [BitVec.toNat_ofNat]; omega), BitVec.toNat_ofNat, Nat.mod_eq_of_lt (by omega)]
    have w : Ideal.ofBits .f32 (BitVec.ofNat 32 (0x3F800000 + 0x800000 * n)) = (((2 ^ n : ℕ) : ℝ) : EReal) := weight_real n h
    show (_ : EReal) + Ideal.ofBits .f32 (BitVec.ofNat 32 (0x3F800000 + 0x800000 * n))
      * (((BitVec.ofNat 32 (levelCount k (P n))).toInt : ℝ) : EReal) = _
    rw [w, e, ← EReal.coe_mul, ← EReal.coe_add]
    push_cast
    rfl

/-- All twelve of them: what the planes spell, over all columns. -/
theorem levels_total (k : ℕ) (P : Planes) :
    ∑ l ∈ Finset.range 12, 2 ^ l * levelCount k (P l) = ∑ i : S8x1024.Idx, spell k P 12 i := by
  unfold spell levelCount
  rw [Finset.sum_comm]
  exact Finset.sum_congr rfl fun l _ => Finset.mul_sum ..

/-- The row of counts, filled in up to bin `n`. -/
theorem rowTo_eq (ps : (l : ℕ) → l < 12 → IVec S1x8x1024 32) (cnt : ℕ → ℕ)
    (hc : ∀ k, k < 30 → countTo (F := Ideal) ps (BitVec.ofNat 32 k) 12 (le_refl _) = ((cnt k : ℝ) : EReal)) (j : S1x128.Idx) :
    ∀ n : ℕ, n ≤ 30 → rowTo (F := Ideal) ps n j = if (j 1).val < n then ((cnt (j 1).val : ℝ) : EReal) else 0
  | 0, _ => by
    rw [if_neg (Nat.not_lt_zero _)]
    exact Ideal.ofBits_zero_f32
  | n + 1, h => by
    have ih := rowTo_eq ps cnt hc j n (Nat.le_of_succ_le h)
    have hj : (j 1).val < 128 := (j 1).isLt
    have i0 : (iota .tc S1x128 32 [1] iota_S1x128_d1_w32 : IVec S1x128 32) j = BitVec.ofNat 32 (j 1).val := by
      unfold iota; simp
    show (rowTo (F := Ideal) ps n j : EReal) + Scalar.select (IntOp.cmpi .eq ((iota .tc S1x128 32 [1] iota_S1x128_d1_w32 : IVec S1x128 32) j) (BitVec.ofNat 32 n))
      (countTo (F := Ideal) ps (BitVec.ofNat 32 n) 12 (le_refl _)) (Ideal.ofBits .f32 0x00000000#32) = _
    rw [ih, i0, hc n h, Ideal.ofBits_zero_f32]
    by_cases e : (j 1).val = n
    · have c : IntOp.cmpi .eq (BitVec.ofNat 32 (j 1).val) (BitVec.ofNat 32 n) = 1#1 := by rw [e]; simp [IntOp.cmpi]
      rw [c, if_neg (by omega), if_pos (by omega), e]
      exact zero_add _
    · have c : IntOp.cmpi .eq (BitVec.ofNat 32 (j 1).val) (BitVec.ofNat 32 n) = 0#1 := by
        have : BitVec.ofNat 32 (j 1).val ≠ BitVec.ofNat 32 n := fun q => e (by
          have := congrArg BitVec.toNat q
          rw [BitVec.toNat_ofNat, BitVec.toNat_ofNat] at this
          omega)
        show BitVec.ofBool (_ == _) = _
        rw [beq_eq_false_iff_ne.2 this]; rfl
      rw [c]
      have s0 : ∀ x y : EReal, Scalar.select (0#1) x y = y := fun _ _ => rfl
      rw [s0, add_zero]
      by_cases h' : (j 1).val < n
      · rw [if_pos h', if_pos (by omega)]
      · rw [if_neg h', if_neg (by omega)]

/-! ## The table of weights -/

/-- A sum of ones and zeros on the extended reals. -/
theorem sum_ind_ereal {ι : Type} (p : ι → Prop) [DecidablePred p] (s : Finset ι) :
    (∑ i ∈ s, if p i then (1 : EReal) else 0) = (((∑ i ∈ s, if p i then 1 else 0 : ℕ) : ℝ) : EReal) := by
  classical
  induction s using Finset.induction_on with
  | empty => simp
  | insert a s ha ih =>
    rw [Finset.sum_insert ha, Finset.sum_insert ha, ih]
    by_cases h : p a
    · rw [if_pos h, if_pos h]; push_cast; rfl
    · rw [if_neg h, if_neg h, zero_add, zero_add]

/-- The columns below thirty. -/
theorem below_thirty : ∀ n : Fin 128, IntOp.cmpi .slt (BitVec.ofNat 32 n.val) 30#32 = BitVec.ofBool (decide (n.val < 30)) := by
  decide

/-- The number of the first thirty entries that are positive. -/
theorem nonEmpty_eq (cnt : ℕ → ℕ) (v : FVec Ideal S1x128 .f32)
    (hv : ∀ j, v j = if (j 1).val < 30 then ((cnt (j 1).val : ℝ) : EReal) else 0) :
    nonEmpty v = ((filled cnt : ℝ) : EReal) := by
  unfold nonEmpty extractAt
  refine (Ideal.multiReduction_add_total _ _ reduces_S1x1x128_S1 (fun b => by
    match b with
    | ⟨0, _⟩ => rfl) _ _ _).trans ?_
  have step : (shapeCast S1x1x128
      (select (andi (cmpi .slt (iota .tc S1x128 32 [1] iota_S1x128_d1_w32) (broadcast S1x128 30#32))
          (cmpf .ogt v (broadcast S1x128 (Scalar.ofBits (F := Ideal) .f32 0x00000000#32))))
        (broadcast S1x128 (Scalar.ofBits (F := Ideal) .f32 0x3F800000#32)) (broadcast S1x128 (Scalar.ofBits (F := Ideal) .f32 0x00000000#32)))
      shapeCasts_S1x128_S1x1x128 : FVec Ideal S1x1x128 .f32)
      = fun i => (fun j : S1x128.Idx => if (j 1).val < 30 ∧ 0 < cnt (j 1).val then (1 : EReal) else 0)
          (Shape.reshapeEquiv shapeCasts_S1x128_S1x1x128 i) := by
    funext i
    rw [shapeCast]
    generalize Shape.reshapeEquiv shapeCasts_S1x128_S1x1x128 i = j
    have i0 : (iota .tc S1x128 32 [1] iota_S1x128_d1_w32 : IVec S1x128 32) j = BitVec.ofNat 32 (j 1).val := by
      unfold iota; simp
    show Scalar.select (IntOp.andi (IntOp.cmpi .slt ((iota .tc S1x128 32 [1] iota_S1x128_d1_w32 : IVec S1x128 32) j) 30#32)
      (BitVec.ofBool (decide (Ideal.ofBits .f32 0x00000000#32 < v j)))) (Ideal.ofBits .f32 0x3F800000#32) (Ideal.ofBits .f32 0x00000000#32) = _
    rw [i0, below_thirty ⟨(j 1).val, (j 1).isLt⟩, andi_ofBool, Ideal.ofBits_zero_f32, Ideal.ofBits_one_f32, hv]
    have zero_real : (0 : EReal) = ((0 : ℝ) : EReal) := rfl
    show Scalar.select (BitVec.ofBool (decide ((j 1).val < 30)
        && decide (0 < (if (j 1).val < 30 then ((cnt (j 1).val : ℝ) : EReal) else 0)))) (1 : EReal) 0
      = if (j 1).val < 30 ∧ 0 < cnt (j 1).val then (1 : EReal) else 0
    by_cases h : (j 1).val < 30
    · rw [if_pos h]
      by_cases h' : 0 < cnt (j 1).val
      · have q : (0 : EReal) < ((cnt (j 1).val : ℝ) : EReal) := by
          rw [zero_real, EReal.coe_lt_coe_iff]; exact Nat.cast_pos.2 h'
        rw [if_pos ⟨h, h'⟩, decide_eq_true h, decide_eq_true q]
        rfl
      · have q : ¬ (0 : EReal) < ((cnt (j 1).val : ℝ) : EReal) := by
          rw [zero_real, EReal.coe_lt_coe_iff]; exact fun k => h' (Nat.cast_pos.1 k)
        rw [if_neg fun k => h' k.2, decide_eq_false q, Bool.and_false]
        rfl
    · rw [if_neg (fun k : (j 1).val < 30 ∧ 0 < cnt (j 1).val => h k.1), decide_eq_false h, Bool.false_and]
      rfl
  refine (Finset.sum_congr rfl fun i _ => congrFun step i).trans ?_
  refine ((Shape.reshapeEquiv shapeCasts_S1x128_S1x1x128).sum_comp
    (fun j : S1x128.Idx => if (j 1).val < 30 ∧ 0 < cnt (j 1).val then (1 : EReal) else 0)).trans ?_
  rw [sum_ind_ereal]
  refine congrArg (fun n : ℕ => ((n : ℝ) : EReal)) ?_
  refine (ValueIdx.sum_idx2 _).trans ?_
  rw [Fin.sum_univ_one]
  show (∑ k : Fin 128, if k.val < 30 ∧ 0 < cnt k.val then 1 else 0) = filled cnt
  unfold filled
  rw [← Finset.sum_range (fun k => if k < 30 ∧ 0 < cnt k then 1 else 0), ← Finset.sum_range (fun k => if 0 < cnt k then 1 else 0),
    show 128 = 30 + 98 from rfl, Finset.sum_range_add]
  rw [Finset.sum_eq_zero (s := Finset.range 98) fun k _ => if_neg fun q => by omega, add_zero]
  refine Finset.sum_congr rfl fun k hk => if_congr ?_ rfl rfl
  exact and_iff_right (Finset.mem_range.1 hk)

section Table

variable (V : (c : Dev nD) → (b : Ref sig .tc) → Buf (Elt Ideal) ((c : Thread nD τ).loc b))
  (hu : ∀ (c : Dev nD) (y : S16384x1024.Idx), (binsOf (Xarr V c) (Tarr V c) y).toNat < 30)

include hu in
/-- The row of counts after the last point. -/
theorem row_last (c : Dev nD) (h7 : 7 < cfg0.N) (j : S1x128.Idx) :
    rowTo (F := Ideal) (fun l h => View.ld (planesAt V c 7 h7) (pl l h)) 30 j
      = if (j 1).val < 30 then ((binCount (binsOf (Xarr V c) (Tarr V c)) (j 1).val : ℝ) : EReal) else 0 :=
  rowTo_eq _ (binCount (binsOf (Xarr V c) (Tarr V c))) (fun k hk => by
    rw [countTo_eq _ (planesOf (planesAt V c 7 h7)) (fun l h => (planesOf_lt _ l h).symm) k (by omega) 12 (le_refl _),
      levels_total, spell_total V hu c k (by omega) h7]) j 30 (le_refl _)

include hu in
/-- The table holds the weights of the thirty bins. -/
theorem betaOf_last (c : Dev nD) (h7 : 7 < cfg0.N) (j : S1x128.Idx) (hj : (j 1).val < 30) :
    betaOf (planesAt V c 7 h7) j = weight (binCount (binsOf (Xarr V c) (Tarr V c))) (j 1).val := by
  have hr := row_last V hu c h7
  show Ideal.div (Ideal.ofBits .f32 0x4B800000#32) (max (Ideal.ofBits .f32 0x38D1B717#32)
    (rowTo (F := Ideal) (fun l h => View.ld (planesAt V c 7 h7) (pl l h)) 30 j
      * nonEmpty (rowTo (F := Ideal) (fun l h => View.ld (planesAt V c 7 h7) (pl l h)) 30))) = _
  rw [nonEmpty_eq _ _ hr, hr, if_pos hj]
  rfl

end Table
-- ==== Proof.Ideal.Gathers.lean ====
/- The second region on the extended reals: the eight gathers of 128 columns read the table at the bins, and a block's rows are
   the means of the weighted losses. -/
module

public import proofs.«01_k».proof.Proof.Ideal.Row
public import proofs.«01_k».proof.Proof.Ideal.LossRegion
public import Idealize.ShloMosaic.Lib.Pipeline.Value
public import Mathlib.Tactic.IntervalCases

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The 128 columns from `128 n` on lie within the block. -/
theorem chunk_ok (n : Fin 8) : S2048x1024.Slices ![0, 128 * n.val] S2048x128 :=
  ⟨rfl, fun a => by have := n.isLt; fin_cases a <;> simp <;> omega⟩

/-- Columns `128 n, …, 128 n + 127` of the index words, with the wrap of negatives. -/
def chunk (w : IVec S2048x1024 32) (n : Fin 8) : IVec S2048x128 32 :=
  select (cmpi .slt (extractStridedSlice S2048x128 ![0, 128 * n.val] w (chunk_ok n)) (broadcast S2048x128 0#32))
    (addi (extractStridedSlice S2048x128 ![0, 128 * n.val] w (chunk_ok n)) (broadcast S2048x128 128#32))
    (extractStridedSlice S2048x128 ![0, 128 * n.val] w (chunk_ok n))

/-- The gather of those columns. -/
def picks (b : FVec Ideal S2048x128 .f32) (w : IVec S2048x1024 32) (n : Fin 8) : FVec Ideal S2048x128 .f32 :=
  dynamicGather 1 b (shapeCast S2048x128 (shapeCast S2048x128x1 (chunk w n) shapeCasts_S2048x128_S2048x128x1) shapeCasts_S2048x128x1_S2048x128)

/-- The losses of a block. -/
def losses (x t : FVec Ideal S2048x1024 .f32) : FVec Ideal S2048x1024 .f32 :=
  addf (subf (maximumf x (broadcast S2048x1024 (Scalar.ofBits .f32 0x00000000#32))) (mulf x t))
    (log1p (exp (subf (broadcast S2048x1024 (Scalar.ofBits .f32 0x00000000#32)) (absf x))))

/-- Eight pieces of 128 columns make the block. -/
theorem pieces_ok : Shape.Concatenates ((List.ofFn fun _ : Fin 8 => S2048x128)) S2048x1024 1 :=
  concatenates_S2048x128_S2048x128_S2048x128_S2048x128_S2048x128_S2048x128_S2048x128_S2048x128_S2048x1024_d1

/-- The weighted losses are the eight gathers side by side, times the losses. -/
theorem pay8_eq (b : Vec Ideal S1x128 .f32) (bi : Vec Ideal S2048x1024 .i8) (x t : Vec Ideal S2048x1024 .f32) :
    k1_pay8 x t (k1_pay2 (F := Ideal) bi) (k1_pay3 b) (k1_pay4 bi b) (k1_pay5 bi b) (k1_pay6 bi b) (k1_pay7 (F := Ideal) bi)
      = mulf (concatenate S2048x1024 1 (List.ofFn fun n : Fin 8 => (⟨S2048x128, picks (k1_pay3 b) (k1_pay2 (F := Ideal) bi) n⟩ : (s : Shape) × (s.Idx → Ideal .f32)))
          pieces_ok) (losses x t) := rfl

/-- A word under 30 is not negative, so the wrap leaves it alone. -/
theorem chunk_apply (w : IVec S2048x1024 32) (n : Fin 8) (i : S2048x128.Idx) (y : S2048x1024.Idx)
    (h0 : (y 0).val = (i 0).val) (h1 : (y 1).val = 128 * n.val + (i 1).val) (hw : (w y).toNat < 30) : chunk w n i = w y := by
  have hs : extractStridedSlice S2048x128 ![0, 128 * n.val] w (chunk_ok n) i = w y := by
    refine congrArg w (funext fun a => Fin.ext ?_)
    match a with
    | ⟨0, _⟩ => exact (Nat.zero_add _).trans h0.symm
    | ⟨1, _⟩ => exact h1.symm
  show Scalar.select (IntOp.cmpi .slt (extractStridedSlice S2048x128 ![0, 128 * n.val] w (chunk_ok n) i) 0#32)
    (IntOp.addi (extractStridedSlice S2048x128 ![0, 128 * n.val] w (chunk_ok n) i) 128#32)
    (extractStridedSlice S2048x128 ![0, 128 * n.val] w (chunk_ok n) i) = _
  rw [hs]
  have hneg : IntOp.cmpi .slt (w y) 0#32 = 0#1 := by
    show BitVec.ofBool ((w y).slt 0#32) = 0#1
    have : ((w y).slt 0#32) = false := by
      rw [BitVec.slt_eq_decide, BitVec.toInt_eq_toNat_of_lt (by omega)]
      simp
    rw [this]; rfl
  rw [hneg]; rfl

/-- A gather reads the table's lane named by the word. -/
theorem picks_apply (b : FVec Ideal S2048x128 .f32) (w : IVec S2048x1024 32) (n : Fin 8) (i : S2048x128.Idx) (y : S2048x1024.Idx)
    (h0 : (y 0).val = (i 0).val) (h1 : (y 1).val = 128 * n.val + (i 1).val) (hw : (w y).toNat < 30) :
    picks b w n i = b (ix2 (n0 := 2048) (n1 := 128) (i 0) ⟨(w y).toNat, by omega⟩) := by
  unfold picks
  rw [shapeCast_shapeCast]
  refine congrArg b (funext fun a => ?_)
  match a with
  | ⟨0, _⟩ => rfl
  | ⟨1, _⟩ =>
    refine Fin.ext ?_
    show (chunk w n i).toNat % 128 = (w y).toNat
    rw [chunk_apply w n i y h0 h1 hw]; omega

/-- Every row of the table a gather reads is the one row of the input. -/
theorem pay3_apply (b : Vec Ideal S1x128 .f32) (i : S2048x128.Idx) : k1_pay3 b i = b (ix2 (n0 := 1) (n1 := 128) 0 (i 1)) := by
  unfold k1_pay3
  rw [shapeCast_self, shapeCast_self]
  refine broadcastTo_apply _ _ _ _ fun a => ?_
  match a with
  | ⟨0, _⟩ => rfl
  | ⟨1, _⟩ => exact (if_neg (show ¬ (128 : ℕ) = 1 from by norm_num)).symm

/-- The stored bins are widened with their sign. -/
theorem pay2_apply (bi : Vec Ideal S2048x1024 .i8) (y : S2048x1024.Idx) : k1_pay2 (F := Ideal) bi y = (bi y).signExtend 32 := by
  unfold k1_pay2
  rw [shapeCast_self]; rfl

/-- The losses are the specification's, element by element. -/
theorem losses_apply (x t : FVec Ideal S2048x1024 .f32) (y : S2048x1024.Idx) : losses x t y = lossAt (x y) (t y) := by
  show (max (x y) (Ideal.ofBits .f32 0x00000000#32) - x y * t y)
    + Ideal.log1p (Ideal.exp (Ideal.ofBits .f32 0x00000000#32 - max (x y) (-(x y)))) = _
  rw [Ideal.ofBits_zero_f32, sub_eq_add_neg (0 : EReal) (max _ _), zero_add]; rfl

/-- A weighted loss: the table at the bin times the loss. -/
theorem pay8_apply (b : Vec Ideal S1x128 .f32) (bi : Vec Ideal S2048x1024 .i8) (x t : Vec Ideal S2048x1024 .f32) (y : S2048x1024.Idx)
    (hw : ((bi y).signExtend 32).toNat < 30) :
    k1_pay8 x t (k1_pay2 (F := Ideal) bi) (k1_pay3 b) (k1_pay4 bi b) (k1_pay5 bi b) (k1_pay6 bi b) (k1_pay7 (F := Ideal) bi) y
      = b (ix2 (n0 := 1) (n1 := 128) 0 ⟨((bi y).signExtend 32).toNat, by omega⟩) * lossAt (x y) (t y) := by
  rw [pay8_eq]
  have hy : (y 1).val < 1024 := (y 1).isLt
  have hn : (y 1).val / 128 < 8 := by omega
  have hm : (y 1).val % 128 < 128 := by omega
  refine congr (congrArg HMul.hMul ?_) (losses_apply x t y)
  have hw' : (k1_pay2 (F := Ideal) bi y).toNat < 30 := by rw [pay2_apply]; exact hw
  refine (concatenate_ofFn_apply (t := S2048x1024) (s₁ := S2048x128) 1 (fun n : Fin 8 => picks (k1_pay3 b) (k1_pay2 (F := Ideal) bi) n)
    pieces_ok rfl 128 rfl y ⟨(y 1).val / 128, hn⟩ rfl (ix2 (n0 := 2048) (n1 := 128) (y 0) ⟨(y 1).val % 128, hm⟩) rfl ?_).trans ?_
  · intro a ha
    match a with
    | ⟨0, _⟩ => rfl
    | ⟨1, _⟩ => exact absurd rfl ha
  · refine (picks_apply _ _ _ _ y rfl (Nat.div_add_mod _ _).symm hw').trans ?_
    refine (pay3_apply b _).trans (congrArg b (funext fun a => ?_))
    match a with
    | ⟨0, _⟩ => rfl
    | ⟨1, _⟩ => exact Fin.ext (show (k1_pay2 (F := Ideal) bi y).toNat = ((bi y).signExtend 32).toNat by rw [pay2_apply])

/-- A row of a block's output is the mean of its weighted losses. -/
theorem lossRows_apply (b : Vec Ideal S1x128 .f32) (bi : Vec Ideal S2048x1024 .i8) (x t : Vec Ideal S2048x1024 .f32)
    (hw : ∀ y, ((bi y).signExtend 32).toNat < 30) (r : S2048.Idx) :
    lossRows (F := Ideal) b bi x t r = Ideal.div (∑ k : Fin 1024,
      b (ix2 (n0 := 1) (n1 := 128) 0 ⟨((bi (ix2 (n0 := 2048) (n1 := 1024) (r 0) k)).signExtend 32).toNat, (hw _).trans (by norm_num)⟩)
        * lossAt (x (ix2 (n0 := 2048) (n1 := 1024) (r 0) k)) (t (ix2 (n0 := 2048) (n1 := 1024) (r 0) k)))
      (Ideal.ofBits .f32 0x44800000#32) := by
  unfold lossRows k1_pay1
  refine congrArg (fun z => Ideal.div z (Ideal.ofBits .f32 0x44800000#32)) ?_
  refine (Ideal.multiReduction_add_single _ _ reduces_S2048x1024_S2048 _ rfl r).trans ?_
  refine Finset.sum_congr rfl fun k _ => ?_
  have hl : reduces_S2048x1024_S2048.lift r k = ix2 (n0 := 2048) (n1 := 1024) (r 0) k := by
    funext a
    match a with
    | ⟨0, _⟩ => rfl
    | ⟨1, _⟩ => rfl
  refine (congrArg _ hl).trans (pay8_apply b bi x t _ (hw _))
-- ==== Proof.Ideal.Arrays.lean ====
/- The arrays the two regions leave on the extended reals: the table and the bins after the first, the means after the second. -/
module

public import proofs.«01_k».proof.Proof.Ideal.Gathers
public import proofs.«01_k».proof.Proof.Ideal.Assembly
public import Idealize.ShloMosaic.Lib.Pipeline.ValueKit.Geometry
public import Idealize.ShloMosaic.Lib.Pipeline.ValueKit.Point
public import Idealize.ShloMosaic.Lib.Pipeline.ValueKit.Tiles

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Arrays

variable (V : (c : Dev nD) → (b : Ref sig .tc) → Buf (Elt Ideal) ((c : Thread nD τ).loc b))

/-- The table is written back once, at the last point. -/
theorem table_once : (cfg0.win 2).WholeAt (⟨7, by decide⟩ : Fin cfg0.N) := by decide +kernel

/-- The first region leaves in the table what the last point computes. -/
theorem table_left (c : Dev nD) (h7 : 7 < cfg0.N) : (dat0 V c).arrAt 2 cfg0.N = betaOf (planesAt V c 7 h7) := by
  funext i
  refine ((dat0 V c).arrAt_emb_eq_after_last 2 ⟨7, h7⟩ table_once i).trans ?_
  rw [after0_2]; rfl

/-- The blocks of window 3 of the first call start at block row `t`. -/
theorem origin0_3 : ∀ t : Fin cfg0.N, win0_3.index t = ![t.val, 0] := (by decide +kernel : ∀ t : Fin grid0.N, _)

/-- The first region leaves in the bins array each element's bin, narrowed. -/
theorem bins_left (c : Dev nD) :
    (dat0 V c).arrAt 3 cfg0.N = (fun y => (binsOf (Xarr V c) (Tarr V c) y).setWidth 8 : S16384x1024.Idx → BitVec 8) := by
  refine (dat0 V c).arrAt_eq_of_covers 3 _ (by decide +kernel) fun t hf y => ?_
  blk_simp
  rw [after0_3]
  show (k0_pay251 (xblk V c t) (tblk V c t) _).setWidth 8 = (binsOf (Xarr V c) (Tarr V c) _).setWidth 8
  rw [pay251_apply, xblk_apply, tblk_apply]
  refine congrArg (fun z => BitVec.setWidth 8 (binsOf (Xarr V c) (Tarr V c) z)) ?_
  blk_ext [under, origin0_3 t]

/-- The arrays of the second region. -/
abbrev Barr (c : Dev nD) : S1x128.Idx → EReal := V c (Pipeline.arrRef spec1 0)
/-- The bins, narrowed to bytes. -/
abbrev Warr (c : Dev nD) : S16384x1024.Idx → BitVec 8 := V c (Pipeline.arrRef spec1 1)
/-- The logits. -/
abbrev X1arr (c : Dev nD) : S16384x1024.Idx → EReal := V c (Pipeline.arrRef spec1 2)
/-- The targets. -/
abbrev T1arr (c : Dev nD) : S16384x1024.Idx → EReal := V c (Pipeline.arrRef spec1 3)

/-- Where a point's block of the second region lies in the whole arrays. -/
def under1 (t : Fin cfg1.N) (y : S2048x1024.Idx) : S16384x1024.Idx :=
  ix2 (n0 := 16384) (n1 := 1024) ⟨2048 * t.val + (y 0).val, by
    have h : (y 0).val < 2048 := (y 0).isLt
    have ht : t.val < 8 := Nat.lt_of_lt_of_eq t.isLt N_1
    omega⟩ ⟨(y 1).val, (y 1).isLt⟩

/-- The second call reads the table whole at every point. -/
theorem origin1_0 : ∀ t : Fin cfg1.N, win1_0.index t = ![0, 0] := (by decide +kernel : ∀ t : Fin grid1.N, _)
/-- The blocks of bins start at block row `t`. -/
theorem origin1_1 : ∀ t : Fin cfg1.N, win1_1.index t = ![t.val, 0] := (by decide +kernel : ∀ t : Fin grid1.N, _)
/-- The blocks of logits start at block row `t`. -/
theorem origin1_2 : ∀ t : Fin cfg1.N, win1_2.index t = ![t.val, 0] := (by decide +kernel : ∀ t : Fin grid1.N, _)
/-- The blocks of targets start at block row `t`. -/
theorem origin1_3 : ∀ t : Fin cfg1.N, win1_3.index t = ![t.val, 0] := (by decide +kernel : ∀ t : Fin grid1.N, _)
/-- The blocks of means start at block `t`. -/
theorem origin1_4 : ∀ t : Fin cfg1.N, win1_4.index t = ![t.val] := (by decide +kernel : ∀ t : Fin grid1.N, _)

/-- The block of the table is the table. -/
theorem blk1_0 (c : Dev nD) (t : Fin cfg1.N) (y : S1x128.Idx) : (iblk1 V c 0 t : S1x128.Idx → EReal) y = Barr V c y := by
  unfold iblk1 Barr
  blk_ext [origin1_0 t]

/-- A block of bins, read in the whole array. -/
theorem blk1_1 (c : Dev nD) (t : Fin cfg1.N) (y : S2048x1024.Idx) : (iblk1 V c 1 t : S2048x1024.Idx → BitVec 8) y = Warr V c (under1 t y) := by
  unfold iblk1 Warr
  blk_ext [under1, origin1_1 t]

/-- A block of logits, read in the whole array. -/
theorem blk1_2 (c : Dev nD) (t : Fin cfg1.N) (y : S2048x1024.Idx) : (iblk1 V c 2 t : S2048x1024.Idx → EReal) y = X1arr V c (under1 t y) := by
  unfold iblk1 X1arr
  blk_ext [under1, origin1_2 t]

/-- A block of targets, read in the whole array. -/
theorem blk1_3 (c : Dev nD) (t : Fin cfg1.N) (y : S2048x1024.Idx) : (iblk1 V c 3 t : S2048x1024.Idx → EReal) y = T1arr V c (under1 t y) := by
  unfold iblk1 T1arr
  blk_ext [under1, origin1_3 t]

/-- The body's output block is its rows: every access is to a whole block. -/
theorem lossOut_eq (x0 : Vec Ideal S1x128 .f32) (x1 : Vec Ideal S2048x1024 .i8) (x2 x3 : Vec Ideal S2048x1024 .f32) :
    lossOut x0 x1 x2 x3 = lossRows (F := Ideal) x0 x1 x2 x3 := by
  unfold lossOut wholeOut wholeTab wholeBlk
  rw [View.canon_cons_unit_lit _ _ _ (by decide), View.ld_unit_lit _ _ (by decide), View.ld_unit_lit _ _ (by decide),
    View.ld_unit_lit _ _ (by decide), View.ld_unit_lit _ _ (by decide)]

/-- A row's mean of the weighted losses, from the arrays the second region reads. -/
def meanRow (b : S1x128.Idx → EReal) (bi : S16384x1024.Idx → BitVec 8) (X T : S16384x1024.Idx → EReal)
    (hw : ∀ y, ((bi y).signExtend 32).toNat < 30) (r : Fin 16384) : EReal :=
  Ideal.div (∑ k : Fin 1024, b (ix2 (n0 := 1) (n1 := 128) 0 ⟨((bi (ix2 (n0 := 16384) (n1 := 1024) r k)).signExtend 32).toNat, (hw _).trans (by norm_num)⟩)
    * lossAt (X (ix2 (n0 := 16384) (n1 := 1024) r k)) (T (ix2 (n0 := 16384) (n1 := 1024) r k))) (Ideal.ofBits .f32 0x44800000#32)

/-- The second region leaves the means. -/
theorem means_left (c : Dev nD) (hw : ∀ y, ((Warr V c y).signExtend 32).toNat < 30) :
    (dat1 V c).arrAt 4 cfg1.N = (fun i => meanRow (Barr V c) (Warr V c) (X1arr V c) (T1arr V c) hw (i 0) : S16384.Idx → EReal) := by
  refine (dat1 V c).arrAt_eq_of_covers 4 _ (by decide +kernel) fun t hf y => ?_
  blk_simp
  rw [after1_4, lossOut_eq]
  have hw' : ∀ z : S2048x1024.Idx, (((iblk1 V c 1 t : S2048x1024.Idx → BitVec 8) z).signExtend 32).toNat < 30 := fun z => by
    rw [blk1_1]; exact hw _
  refine (lossRows_apply _ _ _ _ hw' y).trans ?_
  unfold meanRow
  refine congrArg (fun z => Ideal.div z (Ideal.ofBits .f32 0x44800000#32)) (Finset.sum_congr rfl fun k _ => ?_)
  have e : under1 t (ix2 (n0 := 2048) (n1 := 1024) (y 0) k) = ix2 (n0 := 16384) (n1 := 1024) ((win1_4.blk t).view.emb y 0) k := by
    refine funext fun a => ?_
    match a with
    | ⟨0, _⟩ =>
      refine Fin.ext ?_
      show 2048 * t.val + (y 0).val = ((win1_4.blk t).view.emb y 0).val
      blk_simp [origin1_4 t]
      omega
    | ⟨1, _⟩ => rfl
  simp only [blk1_0, blk1_1, blk1_2, blk1_3, e]

end Arrays
-- ==== Proof.Ideal.Scatter.lean ====
/- The reference on the extended reals: its scatter counts the elements of each bin, and its result is the mean over a row of
   the element's loss times the weight of its bin. -/
module

public import proofs.«01_k».proof.Proof.Ideal.Bins
public import proofs.«01_k».proof.Proof.Gen.ReferenceIdeal.Run
public import Idealize.ShloMosaic.Lib.IndicatorCount
public import Idealize.ShloMosaic.Lib.Routing.OpsPair

@[expose] public section

set_option maxRecDepth 16384

noncomputable section

namespace Cert.ReferenceIdeal.Own

open Idealize.ShloMosaic Idealize.ShloMosaic.TcCoe Idealize.ShloMosaic.ValueIdx Idealize.ShloMosaic.WordCmp
open Cert.ReferenceIdeal Cert.ReferenceIdeal.Gen
open Idealize.ShloMosaic.Routing (shape1 shape2 scatter_at resultIdx?_ix1)

/-! ## A scatter of ones counts -/

/-- Adding one for every list entry that passes a test counts them. -/
theorem foldl_ones {α : Type} (p : α → Prop) [DecidablePred p] : ∀ (l : List α) (c : ℕ),
    l.foldl (fun a x => if p x then IntOp.addi a (1#32) else a) (BitVec.ofNat 32 c)
      = BitVec.ofNat 32 (c + (l.map fun x => if p x then 1 else 0).sum)
  | [], c => rfl
  | x :: l, c => by
    have e : (if p x then IntOp.addi (BitVec.ofNat 32 c) 1#32 else BitVec.ofNat 32 c) = BitVec.ofNat 32 (c + if p x then 1 else 0) := by
      split
      · exact (BitVec.ofNat_add c 1).symm
      · rfl
    rw [List.foldl_cons, e, foldl_ones p l, List.map_cons, List.sum_cons, Nat.add_assoc]

section Scatter

variable {N M : ℕ} (d : ScatterDims (shape1 N) (shape2 M 1) (shape1 M)) (hiw : d.insertedWindowDims = [0])
  (hsd : d.scatterDimsToOperandDims = [0]) (hivd : d.indexVectorDim = 1)

include hiw hsd hivd in
/-- Update `i` lands at entry `e` exactly when its index word, read signed, is `e`. -/
theorem lands_at (idx : IVec (shape2 M 1) 32) (i : Fin M) (e : Fin N) :
    d.resultIdx? (ix1 i) idx = some (ix1 e) ↔ (idx (ix2 i (0 : Fin 1))).toInt = (e.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hsi : d.siIdx (ix1 i) ⟨d.scatterDimsToOperandDims.idxOf 0, List.idxOf_lt_length_iff.2 hm⟩ = ix2 i (0 : Fin 1) := by
    funext b
    apply Fin.ext
    match b with
    | ⟨0, _⟩ =>
      have e : ∀ X : Fin 1, (ix1 i X).val = i.val := fun X => by
        obtain rfl : X = 0 := Subsingleton.elim _ _
        rfl
      unfold ScatterDims.siIdx
      rw [dif_neg (by rw [hivd]; exact Nat.zero_ne_one)]
      exact e _
    | ⟨1, _⟩ =>
      unfold ScatterDims.siIdx
      rw [dif_pos (by rw [hivd])]
      show List.idxOf (0 : Fin 1) d.scatterDimsToOperandDims = 0
      rw [hsd]; rfl
  have hstart : d.start (ix1 i) idx 0 = (idx (ix2 i (0 : Fin 1))).toInt := by
    unfold ScatterDims.start
    rw [dif_pos hm, hsi]
  rw [resultIdx?_ix1, hstart, hwin]
  simp

include hiw hsd hivd in
/-- So a scatter of ones into zeros leaves at `e` the number of index words that are `e`. -/
theorem scatter_ones (x0 : IVec (shape1 N) 32) (idx : IVec (shape2 M 1) 32) (upd : IVec (shape1 M) 32) (hu : ∀ i, upd i = 1#32)
    (g : (shape1 M).Idx → BitVec 32) (hg : ∀ i : Fin M, idx (ix2 i (0 : Fin 1)) = g (ix1 i)) (hs : ∀ k, (g k).toNat < 30)
    (e : Fin N) (h0 : x0 (ix1 e) = 0#32) :
    Host.scatter d IntOp.addi x0 idx upd (ix1 e)
      = BitVec.ofNat 32 (∑ k : (shape1 M).Idx, if (g k).toNat = e.val then 1 else 0) := by
  have hl : ∀ k : (shape1 M).Idx, d.resultIdx? k idx = some (ix1 e) ↔ (g k).toNat = e.val := fun k => by
    obtain ⟨i, rfl⟩ : ∃ i : Fin M, k = ix1 i := ⟨k 0, eq_ix1 k⟩
    rw [lands_at d hiw hsd hivd idx i e, hg]
    have := hs (ix1 i)
    rw [BitVec.toInt_eq_toNat_of_lt (by omega)]
    exact Int.ofNat_inj
  rw [scatter_at, h0]
  have step : (fun (a : BitVec 32) (n : Fin (shape1 M).numel) => if d.resultIdx? ((shape1 M).rowMajor.symm n) idx = some (ix1 e)
      then IntOp.addi a (upd ((shape1 M).rowMajor.symm n)) else a)
      = fun a n => if (g ((shape1 M).rowMajor.symm n)).toNat = e.val then IntOp.addi a (1#32) else a := by
    funext a n
    rw [hu]
    exact if_congr (hl _) rfl rfl
  rw [step]
  refine (foldl_ones (fun n => (g ((shape1 M).rowMajor.symm n)).toNat = e.val) _ 0).trans ?_
  rw [← Fin.sum_univ_def, Nat.zero_add]
  exact congrArg _ ((shape1 M).rowMajor.symm.sum_comp fun k => if (g k).toNat = e.val then 1 else 0)

end Scatter

end Cert.ReferenceIdeal.Own

end
-- ==== Proof.Ideal.Ref.lean ====
/- The reference on the extended reals, operation by operation: its result at a row is the mean of the row's weighted losses. -/
module

public import proofs.«01_k».proof.Proof.Ideal.Scatter
public import Mathlib.Tactic.IntervalCases

@[expose] public section

set_option maxRecDepth 16384

noncomputable section

namespace Cert.ReferenceIdeal.Own

open Idealize.ShloMosaic Idealize.ShloMosaic.TcCoe Idealize.ShloMosaic.ValueIdx Idealize.ShloMosaic.WordCmp
open Cert.ReferenceIdeal Cert.ReferenceIdeal.Gen
open Cert.KernelIdeal.Own (binWord binsOf binCount binCount_le filled filled_le weight lossAt cell answer)
open Idealize.ShloMosaic.Routing (shape1 shape2 scatter_at resultIdx?_ix1)

variable (X T : FVec Ideal S16384x1024 .f32)

/-- The reference's bins. -/
def refBins : IVec S16384x1024 32 :=
  fptosi 32 (Host.floor (mulf (Host.absf (subf (Host.divf (broadcastInDim S16384x1024 ![] bcast_S_S16384x1024 (constant S_ .f32 0x3F800000#32)) (addf (broadcastInDim S16384x1024 ![] bcast_S_S16384x1024 (constant S_ .f32 0x3F800000#32)) (Host.exp (Host.negf X)))) T)) (broadcastInDim S16384x1024 ![] bcast_S_S16384x1024 (constant S_ .f32 0x41EFFFCC#32))))

/-- The reference's bins are the kernel's, element by element. -/
theorem refBins_apply (y : S16384x1024.Idx) : refBins X T y = binsOf X T y := by
  show Ideal.fptosi 32 (Ideal.liftRound Int.floor
    (max (Ideal.div (Ideal.ofBits .f32 0x3F800000#32) (Ideal.ofBits .f32 0x3F800000#32 + Ideal.exp (-X y)) - T y)
      (-(Ideal.div (Ideal.ofBits .f32 0x3F800000#32) (Ideal.ofBits .f32 0x3F800000#32 + Ideal.exp (-X y)) - T y))
      * Ideal.ofBits .f32 0x41EFFFCC#32)) = _
  rw [Ideal.ofBits_one_f32]
  rfl

/-- A word of the range passes the clip below and the wrap of negatives. -/
theorem wrap_id (w : BitVec 32) (h : w.toNat < 30) :
    Scalar.select (IntOp.cmpi .slt w 0#32) (IntOp.addi w 30#32) w = w ∧ IntOp.maxsi 0#32 w = w := by
  have e : w = BitVec.ofNat 32 w.toNat := by simp
  generalize w.toNat = n at e h
  subst e
  interval_cases n <;> exact ⟨rfl, rfl⟩

variable (b : IVec S16384x1024 32)

/-- The bins in one row, clipped below. -/
def flat : IVec S16777216 32 :=
  maxsi (broadcastInDim S16777216 ![] bcast_S_S16777216 (id (constantI S_ 32 0#32))) (shapeCast _ b shapeCasts_S16384x1024_S16777216)

/-- The scatter's index words. -/
def words : IVec S16777216x1 32 :=
  broadcastInDim S16777216x1 ![0] bcast_S16777216_S16777216x1_0 (select (cmpi .slt (flat b) (broadcastInDim S16777216 ![] bcast_S_S16777216 (constantI S_ 32 0#32))) (addi (flat b) (broadcastInDim S16777216 ![] bcast_S_S16777216 (constantI S_ 32 30#32))) (flat b))

/-- The counts. -/
def counts : IVec S30 32 :=
  Host.scatter scatter_S30_S16777216x1_S16777216_n_0_0_1 IntOp.addi (broadcastInDim S30 ![] bcast_S_S30 (constantI S_ 32 0#32)) (words b) (broadcastInDim S16777216 ![] bcast_S_S16777216 (constantI S_ 32 1#32))

/-- The table of weights. -/
def table : FVec Ideal S30 .f32 :=
  Host.divf (broadcastInDim S30 ![] bcast_S_S30 (constant S_ .f32 0x4B800000#32)) (maximumf (broadcastInDim S30 ![] bcast_S_S30 (id (constant S_ .f32 0x38D1B717#32))) (mulf (sitofp .f32 (counts b)) (broadcastInDim S30 ![] bcast_S_S30 (sitofp .f32 (Host.reduce IntOp.addi (extui 32 (cmpf .ogt (sitofp (F := Ideal) .f32 (counts b)) (broadcastInDim S30 ![] bcast_S_S30 (constant S_ .f32 0x00000000#32))) natLt_1_32) (constantI S_ 32 0#32) reducesTo_S30_S_d0 h_S_)))))

/-- The weighted losses. -/
def weighted : FVec Ideal S16384x1024 .f32 :=
  mulf (Host.gather gather_S30_S16384x1024x1_S16384x1024_n_0_n_n_0_2_1 (table b) (broadcastInDim S16384x1024x1 ![0, 1] bcast_S16384x1024_S16384x1024x1_0_1 (select (cmpi .slt b (broadcastInDim S16384x1024 ![] bcast_S_S16384x1024 (constantI S_ 32 0#32))) (addi b (broadcastInDim S16384x1024 ![] bcast_S_S16384x1024 (constantI S_ 32 30#32))) b))) (addf (subf (maximumf X (broadcastInDim S16384x1024 ![] bcast_S_S16384x1024 (constant S_ .f32 0x00000000#32))) (mulf X T)) (Host.log1p (Host.exp (Host.negf (Host.absf X)))))

/-- The result. -/
def result : FVec Ideal S16384 .f32 :=
  Host.divf (Host.reduceAdd (weighted X T (refBins X T)) (constant S_ .f32 0x00000000#32) reducesTo_S16384x1024_S16384_d1 h_S_) (broadcastInDim S16384 ![] bcast_S_S16384 (constant S_ .f32 0x44800000#32))

/-- The reference's result as one expression of its two arguments. -/
theorem res_eq (m : (ℓ : Loc nD τ sig) → Buf (Elt Ideal) ℓ) (c : Dev nD) :
    Cert.ReferenceIdeal.Value.res_main_v53 m c
      = result (m ((c.tc : Thread nD τ).loc main_arg0)) (m ((c.tc : Thread nD τ).loc main_arg1)) := rfl

variable (hb : ∀ y, (b y).toNat < 30)

/-- The flattened bins, negatives raised to zero, element by element. -/
theorem flat_apply (k : S16777216.Idx) :
    flat b k = IntOp.maxsi 0#32 (b (Shape.reshapeEquiv shapeCasts_S16384x1024_S16777216 k)) := rfl

include hb in
/-- The scattered indices, element by element. -/
theorem words_apply (i : Fin 16777216) :
    words b (ix2 (n0 := 16777216) (n1 := 1) i (0 : Fin 1))
      = b (Shape.reshapeEquiv shapeCasts_S16384x1024_S16777216 (ix1 (n := 16777216) i)) := by
  unfold words
  rw [broadcastInDim_apply _ _ _ _ (ix1 (n := 16777216) i) (fun a => by
    match a with
    | ⟨0, _⟩ => exact (if_neg (show ¬ (16777216 : ℕ) = 1 from by norm_num)).symm)]
  show Scalar.select (IntOp.cmpi .slt (flat b _) 0#32) (IntOp.addi (flat b _) 30#32) (flat b _) = _
  rw [flat_apply, (wrap_id _ (hb _)).2, (wrap_id _ (hb _)).1]

include hb in
/-- The scatter's counts are the numbers of elements of the bins. -/
theorem counts_apply (e : Fin 30) : counts b (ix1 e) = BitVec.ofNat 32 (binCount b e.val) := by
  unfold counts
  refine (scatter_ones (N := 30) (M := 16777216) _ rfl rfl rfl _ (words b) _ (fun _ => rfl)
    (fun k => b (Shape.reshapeEquiv shapeCasts_S16384x1024_S16777216 k)) (words_apply b hb) (fun _ => hb _) e rfl).trans ?_
  unfold binCount
  exact congrArg _ ((Shape.reshapeEquiv shapeCasts_S16384x1024_S16777216).sum_comp fun y => if (b y).toNat = e.val then 1 else 0)

include hb in
/-- The reference's counts are the numbers of elements in the bins. -/
theorem countsF_apply (e : Fin 30) :
    (sitofp (F := Ideal) .f32 (counts b) : FVec Ideal S30 .f32) (ix1 e) = ((binCount b e.val : ℝ) : EReal) := by
  show (((counts b (ix1 e)).toInt : ℝ) : EReal) = _
  have := binCount_le b e.val
  rw [counts_apply b hb, BitVec.toInt_eq_toNat_of_lt (by rw [BitVec.toNat_ofNat]; omega), BitVec.toNat_ofNat,
    Nat.mod_eq_of_lt (by omega)]
  rfl

/-- A sum over a vector's indices. -/
theorem sum_ix1 {M : Type} [AddCommMonoid M] {n : ℕ} (f : (⟨1, ![n]⟩ : Shape).Idx → M) : ∑ j, f j = ∑ k : Fin n, f (ix1 k) :=
  (Function.Bijective.sum_comp (e := fun k : Fin n => (ix1 k : (⟨1, ![n]⟩ : Shape).Idx))
    ⟨fun k k' e => congrFun e 0, fun j => ⟨j 0, (eq_ix1 j).symm⟩⟩ f).symm

include hb in
/-- The number of bins that hold an element. -/
theorem filled_apply (j : S_.Idx) :
    Host.reduce IntOp.addi (extui 32 (cmpf .ogt (sitofp (F := Ideal) .f32 (counts b)) (broadcastInDim S30 ![] bcast_S_S30 (constant S_ .f32 0x00000000#32))) natLt_1_32) (constantI S_ 32 0#32) reducesTo_S30_S_d0 h_S_ j
      = BitVec.ofNat 32 (filled (binCount b)) := by
  have all : (Finset.univ.filter fun i : S30.Idx => reducesTo_S30_S_d0.drop i = j) = Finset.univ :=
    Finset.filter_true_of_mem fun i _ => by funext a; exact a.elim0
  refine (Host.reduce_eq_fold _ _ _ _ _ _).trans ?_
  rw [all]
  refine (IndicatorCount.fold_addi_setWidth_eq_card _ _).trans ?_
  refine congrArg (BitVec.ofNat 32) ?_
  rw [Finset.card_filter]
  refine (sum_ix1 _).trans (Finset.sum_congr rfl fun e _ => ?_)
  show (if BitVec.ofBool (decide (Ideal.ofBits .f32 0x00000000#32 < (sitofp (F := Ideal) .f32 (counts b) : FVec Ideal S30 .f32) (ix1 e))) = 1#1 then 1 else 0) = _
  rw [countsF_apply b hb, Ideal.ofBits_zero_f32]
  refine if_congr ?_ rfl rfl
  rw [ofBool_eq_one_iff, decide_eq_true_iff]
  have : (0 : EReal) = ((0 : ℝ) : EReal) := rfl
  rw [this, EReal.coe_lt_coe_iff]
  exact Nat.cast_pos

include hb in
/-- The reference's table holds the bins' weights. -/
theorem table_apply (e : Fin 30) : table b (ix1 e) = weight (binCount b) e.val := by
  show Ideal.div (Ideal.ofBits .f32 0x4B800000#32) (max (Ideal.ofBits .f32 0x38D1B717#32)
    ((sitofp (F := Ideal) .f32 (counts b) : FVec Ideal S30 .f32) (ix1 e)
      * (((broadcastInDim S30 ![] bcast_S_S30 (Host.reduce IntOp.addi (extui 32 (cmpf .ogt (sitofp (F := Ideal) .f32 (counts b)) (broadcastInDim S30 ![] bcast_S_S30 (constant S_ .f32 0x00000000#32))) natLt_1_32) (constantI S_ 32 0#32) reducesTo_S30_S_d0 h_S_) (ix1 e)).toInt : ℝ) : EReal))) = _
  have := filled_le (binCount b)
  rw [countsF_apply b hb, broadcastInDim_scalar_apply, filled_apply b hb,
    BitVec.toInt_eq_toNat_of_lt (by rw [BitVec.toNat_ofNat]; omega), BitVec.toNat_ofNat, Nat.mod_eq_of_lt (by omega)]
  rfl

include hb in
/-- The reference's weighted losses, element by element. -/
theorem weighted_apply (y : S16384x1024.Idx) :
    weighted X T b y = weight (binCount b) (b y).toNat * lossAt (X y) (T y) := by
  have hy := hb y
  have hi : ∀ z : S16384x1024x1.Idx, (z 0).val = (y 0).val → (z 1).val = (y 1).val →
      broadcastInDim S16384x1024x1 ![0, 1] bcast_S16384x1024_S16384x1024x1_0_1 (select (cmpi .slt b (broadcastInDim S16384x1024 ![] bcast_S_S16384x1024 (constantI S_ 32 0#32))) (addi b (broadcastInDim S16384x1024 ![] bcast_S_S16384x1024 (constantI S_ 32 30#32))) b) z = b y := fun z z0 z1 => by
    rw [broadcastInDim_apply _ _ _ _ y (fun a => by
      match a with
      | ⟨0, _⟩ => exact z0.symm.trans (if_neg (show ¬ (16384 : ℕ) = 1 from by norm_num)).symm
      | ⟨1, _⟩ => exact z1.symm.trans (if_neg (show ¬ (1024 : ℕ) = 1 from by norm_num)).symm)]
    exact (wrap_id _ (hb y)).1
  have hg : Host.gather gather_S30_S16384x1024x1_S16384x1024_n_0_n_n_0_2_1 (table b) (broadcastInDim S16384x1024x1 ![0, 1] bcast_S16384x1024_S16384x1024x1_0_1 (select (cmpi .slt b (broadcastInDim S16384x1024 ![] bcast_S_S16384x1024 (constantI S_ 32 0#32))) (addi b (broadcastInDim S16384x1024 ![] bcast_S_S16384x1024 (constantI S_ 32 30#32))) b)) y
      = weight (binCount b) (b y).toNat := by
    refine (gather_take_apply (N := 30) (R := 16384) (C := 1024) (by decide) gather_S30_S16384x1024x1_S16384x1024_n_0_n_n_0_2_1_wf (table b) _ y).trans ?_
    rw [table_apply b hb]
    refine congrArg (weight (binCount b)) ?_
    show min (BitVec.toInt _).toNat (30 - 1) = _
    rw [hi (takeIdx y) rfl rfl, BitVec.toInt_eq_toNat_of_lt (by omega)]
    omega
  show (Host.gather _ _ _ y : EReal) * ((max (X y) (Ideal.ofBits .f32 0x00000000#32) - X y * T y) + Ideal.log1p (Ideal.exp (-(max (X y) (-X y))))) = _
  rw [hg, Ideal.ofBits_zero_f32]
  rfl

/-- Summing over the columns leaves the rows. -/
theorem reduces_rows : S16384x1024.Reduces [1] S16384 := by decide

/-- The reference's result at a row. -/
theorem result_apply (hu : ∀ y, (binsOf X T y).toNat < 30) (r : Fin 16384) : result X T (ix1 (n := 16384) r) = answer X T r := by
  have e : refBins X T = binsOf X T := funext (refBins_apply X T)
  unfold result answer
  rw [hostDivf_apply, hostReduceAdd_apply, Ideal.hostReduceAdd_single _ reduces_rows, e]
  refine congrArg₂ Ideal.div ?_ rfl
  refine (congrArg (· + _) Ideal.ofBits_zero_f32).trans ((zero_add _).trans ?_)
  refine Finset.sum_congr rfl fun k _ => ?_
  rw [weighted_apply X T _ hu]
  have : reduces_rows.lift (ix1 (n := 16384) r) k = cell r k := by
    funext a
    refine Fin.ext ?_
    match a with
    | ⟨0, _⟩ => rfl
    | ⟨1, _⟩ => rfl
  rw [this]

end Cert.ReferenceIdeal.Own

end
-- ==== Proof.Ideal.Value.lean ====
/- The value claim: over the extended reals, where the targets lie in the unit interval, the kernel's means are the reference's. -/
module

public import proofs.«01_k».proof.Defs
public import proofs.«01_k».proof.Proof.Ideal.Arrays
public import proofs.«01_k».proof.Proof.Ideal.Ref
public import proofs.«01_k».proof.Proof.Gen.ReferenceIdeal.Run

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- With the bins' weights as table and the bins narrowed to bytes, a row's mean is the specification's answer. -/
theorem meanRow_eq (X T : S16384x1024.Idx → EReal) (hu : ∀ y, (binsOf X T y).toNat < 30) (b : S1x128.Idx → EReal)
    (hb : ∀ j : S1x128.Idx, (j 1).val < 30 → b j = weight (binCount (binsOf X T)) (j 1).val) (bi : S16384x1024.Idx → BitVec 8)
    (hbi : bi = fun y => (binsOf X T y).setWidth 8) (hw : ∀ y, ((bi y).signExtend 32).toNat < 30) (r : Fin 16384) :
    meanRow b bi X T hw r = answer X T r := by
  subst hbi
  unfold meanRow answer
  refine congrArg (fun z => Ideal.div z (Ideal.ofBits .f32 0x44800000#32)) (Finset.sum_congr rfl fun k _ => ?_)
  have hc : cell r k = ix2 (n0 := 16384) (n1 := 1024) r k := (ix2_eq_valueIdx _ _).symm
  rw [hc]
  refine congrArg (· * _) ((hb _ (hw _)).trans (congrArg (weight _) ?_))
  show (((binsOf X T (ix2 (n0 := 16384) (n1 := 1024) r k)).setWidth 8).signExtend 32).toNat = _
  rw [widen_narrow _ (hu _)]

variable (m : (ℓ : Loc nD τ sig) → Buf (Elt Ideal) ℓ) (ρ : Dev nD → PrngReg)

/-- The launch's logits and targets. -/
abbrev logits (c : Dev nD) : S16384x1024.Idx → EReal := m ((c : Thread nD τ).loc main_arg0)
/-- The launch's targets. -/
abbrev targets (c : Dev nD) : S16384x1024.Idx → EReal := m ((c : Thread nD τ).loc main_arg1)

/-- The kernel's result, where every bin is under 30. -/
theorem kernel_value (hu : ∀ (c : Dev nD) (y : S16384x1024.Idx), (binsOf (logits m c) (targets m c) y).toNat < 30) (c : Dev nD) :
    (dat1 (U1 m ρ) c).arrAt 4 cfg1.N = (fun i => answer (logits m c) (targets m c) (i 0) : S16384.Idx → EReal) := by
  have h7 : 7 < cfg0.N := by decide
  have hX : X1arr (U1 m ρ) c = logits m c := B1_arg0 m ρ c
  have hT : T1arr (U1 m ρ) c = targets m c := B1_arg1 m ρ c
  have hW : Warr (U1 m ρ) c = fun y => (binsOf (logits m c) (targets m c) y).setWidth 8 :=
    (B1_arr m ρ c 3).trans (bins_left (U0 m ρ) c)
  have hB : Barr (U1 m ρ) c = betaOf (planesAt (U0 m ρ) c 7 h7) := (B1_arr m ρ c 2).trans (table_left (U0 m ρ) c h7)
  have hw : ∀ y, ((Warr (U1 m ρ) c y).signExtend 32).toNat < 30 := fun y => by
    rw [hW]; exact (congrArg (fun w : BitVec 32 => w.toNat) (widen_narrow _ (hu c y))).trans_lt (hu c y)
  refine (means_left (U1 m ρ) c hw).trans (funext fun i => ?_)
  have := meanRow_eq (logits m c) (targets m c) (hu c) (Barr (U1 m ρ) c)
    (fun j hj => by rw [hB]; exact betaOf_last (U0 m ρ) hu c h7 j hj) (Warr (U1 m ρ) c) hW hw (i 0)
  rw [← this, ← hX, ← hT]

/-- Where the targets lie in the unit interval the kernel and the reference, over the extended reals, end with the same means and
    leave their arguments as they were. -/
theorem algebraic : Cert.algebraic_KernelIdeal_ReferenceIdeal_pre_target_in_unit := by
  intro m ρ m' ρ' hpre hin
  have hu : ∀ (c : Dev nD) (y : S16384x1024.Idx), (binsOf (logits m c) (targets m c) y).toNat < 30 := fun c y =>
    binWord_lt _ _ (unit_of_pre _ _ (hpre c) y).1 (unit_of_pre _ _ (hpre c) y).2
  refine ⟨fun c => (fun i => answer (logits m c) (targets m c) (i 0) : S16384.Idx → EReal), ?_, ?_⟩
  · refine (θ_run defs _ _).mono (fun r h c => ?_) (run_value m ρ)
    exact ⟨(h c).1.trans (kernel_value m ρ hu c), (h c).2⟩
  · refine (θ_run Cert.ReferenceIdeal.defs _ _).mono (fun r h c => ?_) (Cert.ReferenceIdeal.Value.run (F := Ideal) m' ρ')
    refine ⟨(h c).1.trans ((Cert.ReferenceIdeal.Own.res_eq m' c).trans (funext fun i => ?_)), (h c).2⟩
    rw [(hin c).1, (hin c).2]
    have hi : i = ValueIdx.ix1 (n := 16384) (i 0) := funext fun a => match a with | ⟨0, _⟩ => rfl
    rw [hi]
    exact Cert.ReferenceIdeal.Own.result_apply _ _ (hu c) (i 0)
-- ==== Proof.lean ====
/- The claims of this certificate, put together from the modules of the kernel's run and of its value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_target_in_unit
public import Idealize.ShloMosaic.Init
public import proofs.«01_k».proof.Proof.Bits.Assembly
public import proofs.«01_k».proof.Proof.Ideal.Assembly
public import Idealize.ShloMosaic.Adequacy
public import proofs.«01_k».proof.Proof.Ideal.Value

@[expose] public section

noncomputable section

namespace Cert.Proof

open Idealize.ShloMosaic Idealize.ShloMosaic.TcCoe Idealize.SL.Sem

/-- The kernel runs to the end, its arguments unchanged and every counter at zero. -/
theorem frame_kernel : Cert.quiescent_Kernel := fun m ρ _ => Cert.Kernel.Own.run_frame m ρ

/-- The kernel over the extended reals likewise. -/
theorem frame_ideal : Cert.quiescent_KernelIdeal := fun m ρ _ => Cert.KernelIdeal.Own.run_frame m ρ

/-- The reference over the extended reals likewise. -/
theorem frame_reference : Cert.quiescent_ReferenceIdeal := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

/-- Kernel and reference compute the same result over the extended reals, where the targets lie in the unit interval. -/
theorem algebraic : Cert.algebraic_KernelIdeal_ReferenceIdeal_pre_target_in_unit := Cert.KernelIdeal.Own.algebraic

/-- Every claim of the certificate. -/
theorem claim : Cert.Claim := ⟨Cert.Kernel.Gen.facts, Cert.KernelIdeal.Gen.facts, Cert.ReferenceIdeal.Gen.facts, Cert.Pre_target_in_unit.Gen.facts, frame_kernel, frame_ideal, fun m ρ _ => frame_ideal m ρ trivial, frame_reference, fun m ρ _ => frame_reference m ρ trivial, trivial, algebraic⟩

end Cert.Proof

end
